-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S2x96x224x224 : Shape := ⟨4, ![2, 96, 224, 224]⟩
abbrev S6 : Shape := ⟨1, ![6]⟩
abbrev S96x1x3x3 : Shape := ⟨4, ![96, 1, 3, 3]⟩
abbrev S96x96x1x1 : Shape := ⟨4, ![96, 96, 1, 1]⟩
abbrev S_ : Shape := ⟨0, ![]⟩

class Facts : Prop where
  bcast_S_S2x96x224x224 : S_.BroadcastsInDim S2x96x224x224 (![] : Fin 0 → Fin S2x96x224x224.rank)
  bcast_S_S96x1x3x3 : S_.BroadcastsInDim S96x1x3x3 (![] : Fin 0 → Fin S96x1x3x3.rank)
  bcast_S_S96x96x1x1 : S_.BroadcastsInDim S96x96x1x1 (![] : Fin 0 → Fin S96x96x1x1.rank)

variable [Facts]

def fn {F : FTy → Type} [FloatOps F] (main_arg0 : FVec F S2x96x224x224 .f32) (main_arg1 : FVec F S6 .f32) (main_arg2 : FVec F S96x1x3x3 .f32) (main_arg3 : FVec F S96x96x1x1 .f32) (main_arg4 : FVec F S96x96x1x1 .f32) : IVec S2x96x224x224 1 × IVec S96x1x3x3 1 × IVec S96x96x1x1 1 :=
  let main_v0 : FVec F S2x96x224x224 .f32 := Host.absf main_arg0
  let main_cst : FVec F S_ .f32 := constant S_ .f32 0x7F61B1E6#32
  let main_v1 : FVec F S2x96x224x224 .f32 := broadcastInDim S2x96x224x224 ![] bcast_S_S2x96x224x224 main_cst
  let main_v2 : IVec S2x96x224x224 1 := cmpf .ole main_v0 main_v1
  let main_v3 : FVec F S96x1x3x3 .f32 := Host.absf main_arg2
  let main_cst_0 : FVec F S_ .f32 := constant S_ .f32 0x7F800000#32
  let main_v4 : FVec F S96x1x3x3 .f32 := broadcastInDim S96x1x3x3 ![] bcast_S_S96x1x3x3 main_cst_0
  let main_v5 : IVec S96x1x3x3 1 := cmpf .olt main_v3 main_v4
  let main_v6 : FVec F S96x96x1x1 .f32 := Host.absf main_arg3
  let main_cst_1 : FVec F S_ .f32 := constant S_ .f32 0x7F800000#32
  let main_v7 : FVec F S96x96x1x1 .f32 := broadcastInDim S96x96x1x1 ![] bcast_S_S96x96x1x1 main_cst_1
  let main_v8 : IVec S96x96x1x1 1 := cmpf .olt main_v6 main_v7
  (main_v2, main_v5, main_v8)
-- ==== Kernel.lean ====
abbrev S2x96x224x224 : Shape := ⟨4, ![2, 96, 224, 224]⟩
abbrev S6 : Shape := ⟨1, ![6]⟩
abbrev S96x1x3x3 : Shape := ⟨4, ![96, 1, 3, 3]⟩
abbrev S96x96x1x1 : Shape := ⟨4, ![96, 96, 1, 1]⟩
abbrev S7 : Shape := ⟨1, ![7]⟩
abbrev S2x96x50176 : Shape := ⟨3, ![2, 96, 50176]⟩
abbrev S_ : Shape := ⟨0, ![]⟩
abbrev S7x1 : Shape := ⟨2, ![7, 1]⟩
abbrev S2x96x7x224 : Shape := ⟨4, ![2, 96, 7, 224]⟩
abbrev S2x7x96x224 : Shape := ⟨4, ![2, 7, 96, 224]⟩
abbrev S2 : Shape := ⟨1, ![2]⟩
abbrev S8 : Shape := ⟨1, ![8]⟩
abbrev S1x8 : Shape := ⟨2, ![1, 8]⟩
abbrev S8x1 : Shape := ⟨2, ![8, 1]⟩
abbrev S96x96 : Shape := ⟨2, ![96, 96]⟩
abbrev S96x9 : Shape := ⟨2, ![96, 9]⟩
abbrev S7616 : Shape := ⟨1, ![7616]⟩
abbrev S1x7616 : Shape := ⟨2, ![1, 7616]⟩
abbrev S1x96x7168 : Shape := ⟨3, ![1, 96, 7168]⟩
abbrev S1x1x96x224 : Shape := ⟨4, ![1, 1, 96, 224]⟩
abbrev S1x1x8 : Shape := ⟨3, ![1, 1, 8]⟩
abbrev S1 : Shape := ⟨1, ![1]⟩
abbrev S1x1x1 : Shape := ⟨3, ![1, 1, 1]⟩
abbrev S8x8 : Shape := ⟨2, ![8, 8]⟩
abbrev S1x8x1 : Shape := ⟨3, ![1, 8, 1]⟩
abbrev S96x7168 : Shape := ⟨2, ![96, 7168]⟩
abbrev S96x224 : Shape := ⟨2, ![96, 224]⟩
abbrev S96x7616 : Shape := ⟨2, ![96, 7616]⟩
abbrev S96x1 : Shape := ⟨2, ![96, 1]⟩
abbrev S96x7615 : Shape := ⟨2, ![96, 7615]⟩
abbrev S96 : Shape := ⟨1, ![96]⟩
abbrev S1x96 : Shape := ⟨2, ![1, 96]⟩
abbrev S864x7168 : Shape := ⟨2, ![864, 7168]⟩
abbrev S96x864 : Shape := ⟨2, ![96, 864]⟩

abbrev nBuf : Space → Nat
  | .hbm => 101
  | .vmem => 19
  | .smem => 0
  | _ => 0

abbrev bufTy : (tb : Table) → Fin (tcTables nBuf tb) → BufTy
  | .hbm, ⟨0, _⟩ => ⟨S2x96x224x224, .f32⟩
  | .hbm, ⟨1, _⟩ => ⟨S6, .f32⟩
  | .hbm, ⟨2, _⟩ => ⟨S96x1x3x3, .f32⟩
  | .hbm, ⟨3, _⟩ => ⟨S96x96x1x1, .f32⟩
  | .hbm, ⟨4, _⟩ => ⟨S96x96x1x1, .f32⟩
  | .hbm, ⟨5, _⟩ => ⟨S7, .i32⟩
  | .hbm, ⟨6, _⟩ => ⟨S7, .i32⟩
  | .hbm, ⟨7, _⟩ => ⟨S2x96x50176, .f32⟩
  | .hbm, ⟨8, _⟩ => ⟨S_, .i32⟩
  | .hbm, ⟨9, _⟩ => ⟨S7, .i32⟩
  | .hbm, ⟨10, _⟩ => ⟨S7, .i1⟩
  | .hbm, ⟨11, _⟩ => ⟨S_, .i32⟩
  | .hbm, ⟨12, _⟩ => ⟨S7, .i32⟩
  | .hbm, ⟨13, _⟩ => ⟨S7, .i32⟩
  | .hbm, ⟨14, _⟩ => ⟨S7, .i32⟩
  | .hbm, ⟨15, _⟩ => ⟨S7x1, .i32⟩
  | .hbm, ⟨16, _⟩ => ⟨S2x96x7x224, .f32⟩
  | .hbm, ⟨17, _⟩ => ⟨S2x7x96x224, .f32⟩
  | .hbm, ⟨18, _⟩ => ⟨S_, .i32⟩
  | .hbm, ⟨19, _⟩ => ⟨S7, .i32⟩
  | .hbm, ⟨20, _⟩ => ⟨S7, .i1⟩
  | .hbm, ⟨21, _⟩ => ⟨S_, .i32⟩
  | .hbm, ⟨22, _⟩ => ⟨S7, .i32⟩
  | .hbm, ⟨23, _⟩ => ⟨S7, .i32⟩
  | .hbm, ⟨24, _⟩ => ⟨S7, .i32⟩
  | .hbm, ⟨25, _⟩ => ⟨S7x1, .i32⟩
  | .hbm, ⟨26, _⟩ => ⟨S2x96x7x224, .f32⟩
  | .hbm, ⟨27, _⟩ => ⟨S2x7x96x224, .f32⟩
  | .hbm, ⟨28, _⟩ => ⟨S_, .f32⟩
  | .hbm, ⟨29, _⟩ => ⟨S2, .f32⟩
  | .hbm, ⟨30, _⟩ => ⟨S8, .f32⟩
  | .hbm, ⟨31, _⟩ => ⟨S1x8, .f32⟩
  | .hbm, ⟨32, _⟩ => ⟨S8x1, .f32⟩
  | .hbm, ⟨33, _⟩ => ⟨S96x96, .f32⟩
  | .hbm, ⟨34, _⟩ => ⟨S96x96, .f32⟩
  | .hbm, ⟨35, _⟩ => ⟨S96x9, .f32⟩
  | .hbm, ⟨36, _⟩ => ⟨S7616, .i32⟩
  | .hbm, ⟨37, _⟩ => ⟨S1x7616, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1x7616, .i32⟩
  | .hbm, ⟨45, _⟩ => ⟨S1x7616, .i32⟩
  | .hbm, ⟨46, _⟩ => ⟨S_, .i32⟩
  | .hbm, ⟨47, _⟩ => ⟨S1x7616, .i32⟩
  | .hbm, ⟨48, _⟩ => ⟨S1x7616, .i1⟩
  | .hbm, ⟨49, _⟩ => ⟨S_, .i32⟩
  | .hbm, ⟨50, _⟩ => ⟨S1x7616, .i32⟩
  | .hbm, ⟨51, _⟩ => ⟨S1x7616, .i1⟩
  | .hbm, ⟨52, _⟩ => ⟨S_, .i32⟩
  | .hbm, ⟨53, _⟩ => ⟨S_, .i1⟩
  | .hbm, ⟨54, _⟩ => ⟨S1x7616, .i1⟩
  | .hbm, ⟨55, _⟩ => ⟨S1x7616, .i1⟩
  | .hbm, ⟨56, _⟩ => ⟨S1x7616, .i1⟩
  | .hbm, ⟨57, _⟩ => ⟨S1x7616, .i32⟩
  | .hbm, ⟨58, _⟩ => ⟨S1x7616, .i32⟩
  | .hbm, ⟨59, _⟩ => ⟨S1x7616, .i32⟩
  | .hbm, ⟨60, _⟩ => ⟨S_, .i32⟩
  | .hbm, ⟨61, _⟩ => ⟨S1x7616, .i32⟩
  | .hbm, ⟨62, _⟩ => ⟨S1x7616, .i1⟩
  | .hbm, ⟨63, _⟩ => ⟨S_, .i32⟩
  | .hbm, ⟨64, _⟩ => ⟨S1x7616, .i32⟩
  | .hbm, ⟨65, _⟩ => ⟨S1x7616, .i1⟩
  | .hbm, ⟨66, _⟩ => ⟨S1x7616, .bf16⟩
  | .hbm, ⟨67, _⟩ => ⟨S1x7616, .bf16⟩
  | .hbm, ⟨68, _⟩ => ⟨S_, .f32⟩
  | .hbm, ⟨69, _⟩ => ⟨S_, .f32⟩
  | .hbm, ⟨70, _⟩ => ⟨S1x7616, .f32⟩
  | .hbm, ⟨71, _⟩ => ⟨S1x7616, .f32⟩
  | .hbm, ⟨72, _⟩ => ⟨S1x7616, .f32⟩
  | .hbm, ⟨73, _⟩ => ⟨S1x7616, .bf16⟩
  | .hbm, ⟨74, _⟩ => ⟨S_, .f32⟩
  | .hbm, ⟨75, _⟩ => ⟨S_, .f32⟩
  | .hbm, ⟨76, _⟩ => ⟨S1x7616, .f32⟩
  | .hbm, ⟨77, _⟩ => ⟨S1x7616, .f32⟩
  | .hbm, ⟨78, _⟩ => ⟨S1x7616, .f32⟩
  | .hbm, ⟨79, _⟩ => ⟨S1x7616, .bf16⟩
  | .hbm, ⟨80, _⟩ => ⟨S7616, .i32⟩
  | .hbm, ⟨81, _⟩ => ⟨S1x7616, .i32⟩
  | .hbm, ⟨82, _⟩ => ⟨S_, .i32⟩
  | .hbm, ⟨83, _⟩ => ⟨S1x7616, .i32⟩
  | .hbm, ⟨84, _⟩ => ⟨S1x7616, .i1⟩
  | .hbm, ⟨85, _⟩ => ⟨S_, .f32⟩
  | .hbm, ⟨86, _⟩ => ⟨S_, .f32⟩
  | .hbm, ⟨87, _⟩ => ⟨S1x7616, .f32⟩
  | .hbm, ⟨88, _⟩ => ⟨S1x7616, .f32⟩
  | .hbm, ⟨89, _⟩ => ⟨S1x7616, .f32⟩
  | .hbm, ⟨90, _⟩ => ⟨S1x7616, .bf16⟩
  | .hbm, ⟨91, _⟩ => ⟨S_, .i32⟩
  | .hbm, ⟨92, _⟩ => ⟨S1x7616, .i32⟩
  | .hbm, ⟨93, _⟩ => ⟨S1x7616, .i1⟩
  | .hbm, ⟨94, _⟩ => ⟨S_, .f32⟩
  | .hbm, ⟨95, _⟩ => ⟨S_, .f32⟩
  | .hbm, ⟨96, _⟩ => ⟨S1x7616, .f32⟩
  | .hbm, ⟨97, _⟩ => ⟨S1x7616, .f32⟩
  | .hbm, ⟨98, _⟩ => ⟨S1x7616, .f32⟩
  | .hbm, ⟨99, _⟩ => ⟨S1x7616, .bf16⟩
  | .hbm, ⟨100, _⟩ => ⟨S2x96x50176, .f32⟩
  | .local _ .vmem, ⟨0, _⟩ => ⟨S1x8, .f32⟩
  | .local _ .vmem, ⟨1, _⟩ => ⟨S8x1, .f32⟩
  | .local _ .vmem, ⟨2, _⟩ => ⟨S96x96, .f32⟩
  | .local _ .vmem, ⟨3, _⟩ => ⟨S96x96, .f32⟩
  | .local _ .vmem, ⟨4, _⟩ => ⟨S96x9, .f32⟩
  | .local _ .vmem, ⟨5, _⟩ => ⟨S1x7616, .bf16⟩
  | .local _ .vmem, ⟨6, _⟩ => ⟨S1x7616, .bf16⟩
  | .local _ .vmem, ⟨7, _⟩ => ⟨S1x7616, .bf16⟩
  | .local _ .vmem, ⟨8, _⟩ => ⟨S1x7616, .bf16⟩
  | .local _ .vmem, ⟨9, _⟩ => ⟨S1x7616, .bf16⟩
  | .local _ .vmem, ⟨10, _⟩ => ⟨S1x7616, .bf16⟩
  | .local _ .vmem, ⟨11, _⟩ => ⟨S1x96x7168, .f32⟩
  | .local _ .vmem, ⟨12, _⟩ => ⟨S1x96x7168, .f32⟩
  | .local _ .vmem, ⟨13, _⟩ => ⟨S1x1x96x224, .f32⟩
  | .local _ .vmem, ⟨14, _⟩ => ⟨S1x1x96x224, .f32⟩
  | .local _ .vmem, ⟨15, _⟩ => ⟨S1x1x96x224, .f32⟩
  | .local _ .vmem, ⟨16, _⟩ => ⟨S1x1x96x224, .f32⟩
  | .local _ .vmem, ⟨17, _⟩ => ⟨S1x96x7168, .f32⟩
  | .local _ .vmem, ⟨18, _⟩ => ⟨S1x96x7168, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_8 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_12 : Ref sig .tc := ⟨.hbm, 82, rfl⟩
abbrev main_v39 : Ref sig .tc := ⟨.hbm, 83, rfl⟩
abbrev main_v40 : Ref sig .tc := ⟨.hbm, 84, rfl⟩
abbrev main_cst_13 : Ref sig .tc := ⟨.hbm, 85, rfl⟩
abbrev main_cst_14 : Ref sig .tc := ⟨.hbm, 86, rfl⟩
abbrev main_call3_v0 : Ref sig .tc := ⟨.hbm, 87, rfl⟩
abbrev main_call3_v1 : Ref sig .tc := ⟨.hbm, 88, rfl⟩
abbrev main_v41 : Ref sig .tc := ⟨.hbm, 89, rfl⟩
abbrev main_v42 : Ref sig .tc := ⟨.hbm, 90, rfl⟩
abbrev main_c_15 : Ref sig .tc := ⟨.hbm, 91, rfl⟩
abbrev main_v43 : Ref sig .tc := ⟨.hbm, 92, rfl⟩
abbrev main_v44 : Ref sig .tc := ⟨.hbm, 93, rfl⟩
abbrev main_cst_16 : Ref sig .tc := ⟨.hbm, 94, rfl⟩
abbrev main_cst_17 : Ref sig .tc := ⟨.hbm, 95, rfl⟩
abbrev main_call4_v0 : Ref sig .tc := ⟨.hbm, 96, rfl⟩
abbrev main_call4_v1 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x7616 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x7616 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x7616 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x7616 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x7616 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x7616 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x96x7168 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x96x224 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x96x224 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x96x7168 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x96x224x224 : Shape := ⟨4, ![2, 96, 224, 224]⟩
abbrev S6 : Shape := ⟨1, ![6]⟩
abbrev S96x1x3x3 : Shape := ⟨4, ![96, 1, 3, 3]⟩
abbrev S96x96x1x1 : Shape := ⟨4, ![96, 96, 1, 1]⟩
abbrev S_ : Shape := ⟨0, ![]⟩
abbrev S1 : Shape := ⟨1, ![1]⟩
abbrev S3 : Shape := ⟨1, ![3]⟩
abbrev S3x1 : Shape := ⟨2, ![3, 1]⟩
abbrev S2x96x226x226 : Shape := ⟨4, ![2, 96, 226, 226]⟩
abbrev S96x3x3 : Shape := ⟨3, ![96, 3, 3]⟩
abbrev S96x1x1 : Shape := ⟨3, ![96, 1, 1]⟩
abbrev S96 : Shape := ⟨1, ![96]⟩
abbrev S1x96x1x1 : Shape := ⟨4, ![1, 96, 1, 1]⟩
abbrev S96x96 : Shape := ⟨2, ![96, 96]⟩
abbrev S2x224x224x96 : Shape := ⟨4, ![2, 224, 224, 96]⟩
abbrev S2x96x50176 : Shape := ⟨3, ![2, 96, 50176]⟩

abbrev nBuf : Space → Nat
  | .hbm => 189
  | .vmem => 0
  | .smem => 0
  | _ => 0

abbrev hbmTy0_0 (i : Nat) : BufTy := match i % 128 with
  | 0 => ⟨S2x96x224x224, .f32⟩
  | 1 => ⟨S6, .f32⟩
  | 2 => ⟨S96x1x3x3, .f32⟩
  | 3 => ⟨S96x96x1x1, .f32⟩
  | 4 => ⟨S96x96x1x1, .f32⟩
  | 5 => ⟨S_, .f32⟩
  | 6 => ⟨S_, .f32⟩
  | 7 => ⟨S_, .f32⟩
  | 8 => ⟨S_, .f32⟩
  | 9 => ⟨S1, .f32⟩
  | 10 => ⟨S6, .f32⟩
  | 11 => ⟨S6, .f32⟩
  | 12 => ⟨S6, .f32⟩
  | 13 => ⟨S_, .f32⟩
  | 14 => ⟨S_, .f32⟩
  | 15 => ⟨S1, .f32⟩
  | 16 => ⟨S6, .f32⟩
  | 17 => ⟨S6, .f32⟩
  | 18 => ⟨S3, .f32⟩
  | 19 => ⟨S3, .i32⟩
  | 20 => ⟨S_, .f32⟩
  | 21 => ⟨S6, .f32⟩
  | 22 => ⟨S_, .i32⟩
  | 23 => ⟨S3, .i32⟩
  | 24 => ⟨S3, .i1⟩
  | 25 => ⟨S_, .i32⟩
  | 26 => ⟨S3, .i32⟩
  | 27 => ⟨S3, .i32⟩
  | 28 => ⟨S3, .i32⟩
  | 29 => ⟨S3x1, .i32⟩
  | 30 => ⟨S_, .f32⟩
  | 31 => ⟨S3, .f32⟩
  | 32 => ⟨S6, .f32⟩
  | 33 => ⟨S_, .f32⟩
  | 34 => ⟨S6, .f32⟩
  | 35 => ⟨S6, .i1⟩
  | 36 => ⟨S6, .f32⟩
  | 37 => ⟨S6, .f32⟩
  | 38 => ⟨S6, .f32⟩
  | 39 => ⟨S_, .f32⟩
  | 40 => ⟨S_, .f32⟩
  | 41 => ⟨S_, .f32⟩
  | 42 => ⟨S_, .f32⟩
  | 43 => ⟨S6, .f32⟩
  | 44 => ⟨S6, .f32⟩
  | 45 => ⟨S_, .f32⟩
  | 46 => ⟨S_, .f32⟩
  | 47 => ⟨S2x96x226x226, .f32⟩
  | 48 => ⟨S2x96x224x224, .f32⟩
  | 49 => ⟨S2x96x224x224, .f32⟩
  | 50 => ⟨S2x96x224x224, .f32⟩
  | 51 => ⟨S2x96x224x224, .f32⟩
  | 52 => ⟨S2x96x224x224, .f32⟩
  | 53 => ⟨S2x96x224x224, .f32⟩
  | 54 => ⟨S2x96x224x224, .f32⟩
  | 55 => ⟨S2x96x224x224, .f32⟩
  | 56 => ⟨S2x96x224x224, .f32⟩
  | 57 => ⟨S_, .f32⟩
  | 58 => ⟨S2x96x224x224, .f32⟩
  | 59 => ⟨S2x96x224x224, .f32⟩
  | 60 => ⟨S2x96x224x224, .f32⟩
  | 61 => ⟨S2x96x224x224, .f32⟩
  | 62 => ⟨S2x96x224x224, .f32⟩
  | 63 => ⟨S2x96x224x224, .f32⟩
  | 64 => ⟨S2x96x224x224, .f32⟩
  | 65 => ⟨S2x96x224x224, .f32⟩
  | 66 => ⟨S2x96x224x224, .f32⟩
  | 67 => ⟨S2x96x224x224, .f32⟩
  | 68 => ⟨S_, .f32⟩
  | 69 => ⟨S2x96x224x224, .f32⟩
  | 70 => ⟨S2x96x224x224, .f32⟩
  | 71 => ⟨S_, .f32⟩
  | 72 => ⟨S_, .f32⟩
  | 73 => ⟨S2x96x226x226, .f32⟩
  | 74 => ⟨S2x96x224x224, .f32⟩
  | 75 => ⟨S2x96x224x224, .f32⟩
  | 76 => ⟨S2x96x224x224, .f32⟩
  | 77 => ⟨S2x96x224x224, .f32⟩
  | 78 => ⟨S2x96x224x224, .f32⟩
  | 79 => ⟨S2x96x224x224, .f32⟩
  | 80 => ⟨S2x96x224x224, .f32⟩
  | 81 => ⟨S2x96x224x224, .f32⟩
  | 82 => ⟨S2x96x224x224, .f32⟩
  | 83 => ⟨S2x96x224x224, .f32⟩
  | 84 => ⟨S2x96x224x224, .f32⟩
  | 85 => ⟨S2x96x224x224, .f32⟩
  | 86 => ⟨S2x96x224x224, .f32⟩
  | 87 => ⟨S2x96x224x224, .f32⟩
  | 88 => ⟨S2x96x224x224, .f32⟩
  | 89 => ⟨S2x96x224x224, .f32⟩
  | 90 => ⟨S2x96x224x224, .f32⟩
  | 91 => ⟨S96x3x3, .f32⟩
  | 92 => ⟨S96x1x1, .f32⟩
  | 93 => ⟨S96, .f32⟩
  | 94 => ⟨S1x96x1x1, .f32⟩
  | 95 => ⟨S2x96x224x224, .f32⟩
  | 96 => ⟨S2x96x224x224, .f32⟩
  | 97 => ⟨S_, .f32⟩
  | 98 => ⟨S2x96x224x224, .f32⟩
  | 99 => ⟨S2x96x224x224, .f32⟩
  | 100 => ⟨S96x1x1, .f32⟩
  | 101 => ⟨S96, .f32⟩
  | 102 => ⟨S1x96x1x1, .f32⟩
  | 103 => ⟨S2x96x224x224, .f32⟩
  | 104 => ⟨S2x96x224x224, .f32⟩
  | 105 => ⟨S2x96x224x224, .f32⟩
  | 106 => ⟨S96x1x1, .f32⟩
  | 107 => ⟨S96, .f32⟩
  | 108 => ⟨S1x96x1x1, .f32⟩
  | 109 => ⟨S2x96x224x224, .f32⟩
  | 110 => ⟨S2x96x224x224, .f32⟩
  | 111 => ⟨S2x96x224x224, .f32⟩
  | 112 => ⟨S96x1x1, .f32⟩
  | 113 => ⟨S96, .f32⟩
  | 114 => ⟨S1x96x1x1, .f32⟩
  | 115 => ⟨S2x96x224x224, .f32⟩
  | 116 => ⟨S2x96x224x224, .f32⟩
  | 117 => ⟨S2x96x224x224, .f32⟩
  | 118 => ⟨S96x1x1, .f32⟩
  | 119 => ⟨S96, .f32⟩
  | 120 => ⟨S1x96x1x1, .f32⟩
  | 121 => ⟨S2x96x224x224, .f32⟩
  | 122 => ⟨S2x96x224x224, .f32⟩
  | 123 => ⟨S2x96x224x224, .f32⟩
  | 124 => ⟨S96x1x1, .f32⟩
  | 125 => ⟨S96, .f32⟩
  | 126 => ⟨S1x96x1x1, .f32⟩
  | 127 => ⟨S2x96x224x224, .f32⟩
  | _ => ⟨S2x96x224x224, .f32⟩

abbrev hbmTy0_1 (i : Nat) : BufTy := match i % 128 with
  | 0 => ⟨S2x96x224x224, .f32⟩
  | 1 => ⟨S2x96x224x224, .f32⟩
  | 2 => ⟨S96x1x1, .f32⟩
  | 3 => ⟨S96, .f32⟩
  | 4 => ⟨S1x96x1x1, .f32⟩
  | 5 => ⟨S2x96x224x224, .f32⟩
  | 6 => ⟨S2x96x224x224, .f32⟩
  | 7 => ⟨S2x96x224x224, .f32⟩
  | 8 => ⟨S96x1x1, .f32⟩
  | 9 => ⟨S96, .f32⟩
  | 10 => ⟨S1x96x1x1, .f32⟩
  | 11 => ⟨S2x96x224x224, .f32⟩
  | 12 => ⟨S2x96x224x224, .f32⟩
  | 13 => ⟨S2x96x224x224, .f32⟩
  | 14 => ⟨S96x1x1, .f32⟩
  | 15 => ⟨S96, .f32⟩
  | 16 => ⟨S1x96x1x1, .f32⟩
  | 17 => ⟨S2x96x224x224, .f32⟩
  | 18 => ⟨S2x96x224x224, .f32⟩
  | 19 => ⟨S2x96x224x224, .f32⟩
  | 20 => ⟨S96x96, .f32⟩
  | 21 => ⟨S2x224x224x96, .f32⟩
  | 22 => ⟨S2x96x224x224, .f32⟩
  | 23 => ⟨S96x96, .f32⟩
  | 24 => ⟨S2x224x224x96, .f32⟩
  | 25 => ⟨S2x96x224x224, .f32⟩
  | 26 => ⟨S_, .f32⟩
  | 27 => ⟨S2x96x224x224, .f32⟩
  | 28 => ⟨S_, .f32⟩
  | 29 => ⟨S2x96x224x224, .f32⟩
  | 30 => ⟨S1, .f32⟩
  | 31 => ⟨S_, .f32⟩
  | 32 => ⟨S2x96x224x224, .f32⟩
  | 33 => ⟨S2x96x224x224, .f32⟩
  | 34 => ⟨S2x96x224x224, .f32⟩
  | 35 => ⟨S1, .f32⟩
  | 36 => ⟨S_, .f32⟩
  | 37 => ⟨S2x96x224x224, .f32⟩
  | 38 => ⟨S2x96x224x224, .f32⟩
  | 39 => ⟨S2x96x224x224, .f32⟩
  | 40 => ⟨S1, .f32⟩
  | 41 => ⟨S_, .f32⟩
  | 42 => ⟨S2x96x224x224, .f32⟩
  | 43 => ⟨S2x96x224x224, .f32⟩
  | 44 => ⟨S2x96x224x224, .f32⟩
  | 45 => ⟨S1, .f32⟩
  | 46 => ⟨S_, .f32⟩
  | 47 => ⟨S2x96x224x224, .f32⟩
  | 48 => ⟨S2x96x224x224, .f32⟩
  | 49 => ⟨S2x96x224x224, .f32⟩
  | 50 => ⟨S1, .f32⟩
  | 51 => ⟨S_, .f32⟩
  | 52 => ⟨S2x96x224x224, .f32⟩
  | 53 => ⟨S2x96x224x224, .f32⟩
  | 54 => ⟨S2x96x224x224, .f32⟩
  | 55 => ⟨S1, .f32⟩
  | 56 => ⟨S_, .f32⟩
  | 57 => ⟨S2x96x224x224, .f32⟩
  | 58 => ⟨S2x96x224x224, .f32⟩
  | 59 => ⟨S2x96x224x224, .f32⟩
  | 60 => ⟨S2x96x50176, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_13 : Ref sig .tc := ⟨.hbm, 154, rfl⟩
abbrev main_v130 : Ref sig .tc := ⟨.hbm, 155, rfl⟩
abbrev main_cst_14 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩

abbrev nD : Nat := 1
abbrev τ : Topo := Topo.v7x

variable {F : FTy → Type} [FloatOps F]
-- ==== Proof.Hand.Consts.lean ====
/- The literals of the two programs as extended reals. -/
module

public import Idealize.ShloMosaic.Lib.Pointwise
public import Idealize.ShloMosaic.Lib.IdealHost
public import Idealize.ShloMosaic.PureOps.Ideal.Laws

@[expose] public section

noncomputable section

namespace Cert.Consts

open Idealize.ShloMosaic

/-- The bound that the clip tables hold: the binary32 number nearest to 3e38. -/
def big : ℝ := 14791142 * 2 ^ 104

theorem big_pos : 0 < big := by unfold big; positivity

theorem ofBits_big : (Ideal.ofBits .f32 0x7F61B1E6#32 : EReal) = (big : EReal) := by
  simp [Ideal.ofBits, Ideal.ieee, big, -EReal.coe_mul]

theorem ofBits_neg_big : (Ideal.ofBits .f32 0xFF61B1E6#32 : EReal) = ((-big : ℝ) : EReal) := by
  simp [Ideal.ofBits, Ideal.ieee, big, -EReal.coe_mul, -EReal.coe_neg]

theorem ofBits_nine : (Ideal.ofBits .f32 0x41100000#32 : EReal) = ((9 : ℝ) : EReal) := by
  simp [Ideal.ofBits, Ideal.ieee, -EReal.coe_mul]; norm_num

theorem ofBits_three : (Ideal.ofBits .f32 0x40400000#32 : EReal) = ((3 : ℝ) : EReal) := by
  simp [Ideal.ofBits, Ideal.ieee, -EReal.coe_mul]; norm_num

/-- The threshold that a weight must exceed to be kept: the binary32 number nearest to 0.01. -/
def thr : ℝ := 10737418 / 2 ^ 30

theorem thr_pos : 0 < thr := by unfold thr; positivity

theorem ofBits_thr : (Ideal.ofBits .f32 0x3C23D70A#32 : EReal) = (thr : EReal) := by
  simp [Ideal.ofBits, Ideal.ieee, thr, -EReal.coe_mul]; norm_num

/-- The number added to the sum of the kept weights: the binary32 number nearest to 1e-8. -/
def eps : ℝ := 11258999 / 2 ^ 50

theorem eps_pos : 0 < eps := by unfold eps; positivity

theorem ofBits_eps : (Ideal.ofBits .f32 0x322BCC77#32 : EReal) = (eps : EReal) := by
  simp [Ideal.ofBits, Ideal.ieee, eps, -EReal.coe_mul]; norm_num

theorem ofBits_bot : (Ideal.ofBits .f32 0xFF800000#32 : EReal) = ⊥ := by
  simp [Ideal.ofBits, Ideal.ieee]

theorem ofBits_top : (Ideal.ofBits .f32 0x7F800000#32 : EReal) = ⊤ := by
  simp [Ideal.ofBits, Ideal.ieee]

end Cert.Consts

end
-- ==== Proof.Hand.Weights.lean ====
/- The six architecture weights, as mathematics over the extended reals: a softmax of six logits, of which the three greatest (ties to the lower index) that
   exceed a threshold are kept, divided by their sum plus a small constant. Then the two ways in which programs compute them: eight entries with two of
   -infinity behind and each entry's rank counted, and a stable sort whose first three positions are marked. -/
module

public import proofs.«01_k».proof.Proof.Hand.Consts
public import Idealize.ShloMosaic.Lib.SortFacts
public import Idealize.ShloMosaic.Lib.Pointwise

@[expose] public section

noncomputable section

namespace Cert.Weights

open Idealize.ShloMosaic Cert.Consts

/-- The greatest of finitely many. -/
def top {n : ℕ} (a : Fin n → EReal) : EReal := Finset.univ.fold max ⊥ a

theorem le_top {n : ℕ} (a : Fin n → EReal) (i : Fin n) : a i ≤ top a :=
  (Finset.le_fold_max _).mpr (Or.inr ⟨i, Finset.mem_univ i, le_refl _⟩)

theorem top_le {n : ℕ} (a : Fin n → EReal) (b : EReal) (h : ∀ i, a i ≤ b) : top a ≤ b :=
  (Finset.fold_max_le _).mpr ⟨bot_le, fun i _ => h i⟩

def ex (a : Fin 6 → EReal) (i : Fin 6) : EReal := Ideal.exp (a i - top a)

def tot (a : Fin 6 → EReal) : EReal := ∑ j, ex a j

/-- The softmax. -/
def sm (a : Fin 6 → EReal) (i : Fin 6) : EReal := Ideal.div (ex a i) (tot a)

/-- Entry `j` stands before entry `i` in descending order, ties to the lower index. -/
def beats {n : ℕ} (w : Fin n → EReal) (j i : Fin n) : Prop := w i < w j ∨ (w j = w i ∧ j < i)

open Classical in
/-- How many entries stand before entry `i`. -/
def rank {n : ℕ} (w : Fin n → EReal) (i : Fin n) : ℕ := (Finset.univ.filter fun j => beats w j i).card

open Classical in
/-- The weight kept. -/
def wm (a : Fin 6 → EReal) (i : Fin 6) : EReal := if rank (sm a) i < 3 ∧ (thr : EReal) < sm a i then sm a i else 0

/-- The weight used. -/
def wn (a : Fin 6 → EReal) (i : Fin 6) : EReal := Ideal.div (wm a i) (∑ j, wm a j + (eps : EReal))

/-! ## The weights are real and not negative -/

theorem exp_nonneg (x : EReal) : 0 ≤ Ideal.exp x := by
  induction x using EReal.rec with
  | bot => exact le_of_eq Ideal.exp_bot.symm
  | top => rw [Ideal.exp_top]; exact _root_.le_top
  | coe r => rw [Ideal.exp_coe]; exact_mod_cast (Real.exp_pos r).le

theorem tot_nonneg (a : Fin 6 → EReal) : 0 ≤ tot a := Finset.sum_nonneg fun _ _ => exp_nonneg _

theorem ex_le_tot (a : Fin 6 → EReal) (i : Fin 6) : ex a i ≤ tot a :=
  Finset.single_le_sum (f := ex a) (fun _ _ => exp_nonneg _) (Finset.mem_univ i)

theorem sm_le_one (a : Fin 6 → EReal) (i : Fin 6) : sm a i ≤ 1 := by
  unfold sm Ideal.div
  split_ifs with h h'
  · exact absurd (lt_of_lt_of_le h' (ex_le_tot a i)) (by rw [h]; exact lt_irrefl _)
  · exact bot_le
  · refine (mul_le_mul_of_nonneg_right (ex_le_tot a i) (EReal.inv_nonneg_of_nonneg (tot_nonneg a))).trans ?_
    by_cases ht : tot a = ⊤
    · rw [ht, EReal.inv_top, mul_zero]; exact zero_le_one
    · exact le_of_eq (EReal.div_self (fun q => absurd (tot_nonneg a) (by rw [q]; decide)) ht h)

theorem wm_nonneg (a : Fin 6 → EReal) (i : Fin 6) : 0 ≤ wm a i := by
  unfold wm
  split_ifs with h
  · exact (lt_trans (by exact_mod_cast thr_pos) h.2).le
  · exact le_refl _

theorem wm_le_one (a : Fin 6 → EReal) (i : Fin 6) : wm a i ≤ 1 := by
  unfold wm
  split_ifs with h
  · exact sm_le_one a i
  · exact zero_le_one

/-- Between 0 and a real: a real. -/
theorem exists_real {x : EReal} (h0 : 0 ≤ x) {b : ℝ} (hb : x ≤ b) : ∃ r : ℝ, 0 ≤ r ∧ x = r := by
  induction x using EReal.rec with
  | bot => exact absurd h0 (by decide)
  | top => exact absurd hb (by simp)
  | coe r => exact ⟨r, by exact_mod_cast h0, rfl⟩

theorem wm_real (a : Fin 6 → EReal) (i : Fin 6) : ∃ r : ℝ, 0 ≤ r ∧ wm a i = r :=
  exists_real (wm_nonneg a i) (b := 1) (by exact_mod_cast wm_le_one a i)

theorem wn_real (a : Fin 6 → EReal) (i : Fin 6) : ∃ r : ℝ, 0 ≤ r ∧ wn a i = r := by
  choose r hr0 hr using wm_real a
  have hs : (∑ j, wm a j + (eps : EReal)) = ((∑ j, r j + eps : ℝ) : EReal) := by
    simp only [hr, Fin.sum_univ_six]
    push_cast
    rfl
  have hpos : 0 < ∑ j, r j + eps := add_pos_of_nonneg_of_pos (Finset.sum_nonneg fun j _ => hr0 j) eps_pos
  refine ⟨r i * (∑ j, r j + eps)⁻¹, mul_nonneg (hr0 i) (inv_nonneg.mpr hpos.le), ?_⟩
  unfold wn Ideal.div
  rw [hs, hr i, if_neg (by exact_mod_cast hpos.ne'), EReal.coe_mul, EReal.coe_inv]

/-! ## Eight entries, with two of -infinity behind -/

section Padded

variable (a : Fin 6 → EReal) (l : Fin 8 → EReal)

theorem top_padded (hl : ∀ j : Fin 8, l j = if h : j.val < 6 then a ⟨j.val, h⟩ else ⊥) :
    Finset.fold max ⊥ (fun x : Fin 1 × Fin 8 => l x.2) Finset.univ = top a := by
  refine le_antisymm ((Finset.fold_max_le _).mpr ⟨bot_le, fun x _ => ?_⟩) (top_le a _ fun i => ?_)
  · rw [hl]
    split_ifs with h
    · exact le_top a _
    · exact bot_le
  · refine (Finset.le_fold_max _).mpr (Or.inr ⟨(0, ⟨i.val, by omega⟩), Finset.mem_univ _, ?_⟩)
    rw [hl, dif_pos i.isLt]

theorem exp_pad (x : EReal) : Ideal.exp (⊥ - x) = 0 := by
  rw [sub_eq_add_neg, EReal.bot_add, Ideal.exp_bot]

theorem tot_padded (hl : ∀ j : Fin 8, l j = if h : j.val < 6 then a ⟨j.val, h⟩ else ⊥) :
    (∑ j : Fin 8, Ideal.exp (l j - top a)) = tot a := by
  rw [Fin.sum_univ_castSucc, Fin.sum_univ_castSucc]
  have h7 : l (Fin.last 7) = ⊥ := by rw [hl]; rfl
  have h6 : l (Fin.last 6).castSucc = ⊥ := by rw [hl]; rfl
  rw [h7, h6, exp_pad, add_zero, add_zero]
  refine Finset.sum_congr rfl fun j _ => ?_
  rw [hl]
  exact congrArg (fun x => Ideal.exp (x - top a)) (dif_pos j.isLt)

theorem div_zero_le (t : EReal) : Ideal.div 0 t ≤ 0 := by
  unfold Ideal.div
  split_ifs with h h'
  · exact absurd h' (lt_irrefl _)
  · exact bot_le
  · rw [zero_mul]

open Classical in
/-- The rank among eight, of which two are not positive, is the rank among six, where the entry itself is positive. -/
theorem rank_padded (w : Fin 6 → EReal) (f : Fin 8 → EReal) (hf : ∀ i : Fin 6, f ⟨i.val, by omega⟩ = w i) (h6 : f 6 ≤ 0) (h7 : f 7 ≤ 0) (i : Fin 6)
    (hi : 0 < w i) : rank f ⟨i.val, by omega⟩ = rank w i := by
  unfold rank
  have e : (Finset.univ.filter fun j : Fin 8 => beats f j ⟨i.val, by omega⟩)
      = (Finset.univ.filter fun j : Fin 6 => beats w j i).map ⟨fun j : Fin 6 => (⟨j.val, by omega⟩ : Fin 8), fun p q h => Fin.ext (Fin.mk.inj h)⟩ := by
    ext j
    simp only [Finset.mem_filter, Finset.mem_univ, true_and, Finset.mem_map, Function.Embedding.coeFn_mk]
    constructor
    · intro h
      have hj : j.val < 6 := by
        by_contra hj
        have hj' : f j ≤ 0 := by
          have : j = 6 ∨ j = 7 := by omega
          rcases this with rfl | rfl
          · exact h6
          · exact h7
        rcases h with h | h
        · rw [hf] at h; exact absurd (lt_trans hi h) (not_lt.mpr hj')
        · exact absurd h.2 (by rw [Fin.lt_def]; simp; omega)
      refine ⟨⟨j.val, hj⟩, ?_, rfl⟩
      unfold beats at h ⊢
      rw [hf i, ← hf ⟨j.val, hj⟩] at *
      exact h
    · rintro ⟨j', h, rfl⟩
      show f ⟨i.val, _⟩ < f ⟨j'.val, _⟩ ∨ (f ⟨j'.val, _⟩ = f ⟨i.val, _⟩ ∧ (⟨j'.val, _⟩ : Fin 8) < ⟨i.val, _⟩)
      rw [hf, hf]
      exact h
  rw [e, Finset.card_map]

theorem bit_f32 (b : Bool) : @Eq EReal (FloatOps.sitofp (F := Ideal) .f32 (BitVec.setWidth 32 (BitVec.ofBool b))) (if b then 1 else 0) := by
  cases b <;> simp [FloatOps.sitofp]

theorem slt_word : ∀ x j : Fin 8, IntOp.cmpi .slt (BitVec.ofNat 32 x.val) (BitVec.ofNat 32 j.val) = BitVec.ofBool (decide (x < j)) := by decide

theorem ori_bool (p q : Bool) : IntOp.ori (BitVec.ofBool p) (BitVec.ofBool q) = BitVec.ofBool (p || q) := by cases p <;> cases q <;> rfl
theorem andi_bool (p q : Bool) : IntOp.andi (BitVec.ofBool p) (BitVec.ofBool q) = BitVec.ofBool (p && q) := by cases p <;> cases q <;> rfl

open Classical in
/-- One comparison of two entries in words: 1 where the first stands before the second. -/
theorem beats_word (f : Fin 8 → EReal) (x j : Fin 8) :
    @Eq EReal (FloatOps.sitofp (F := Ideal) FTy.f32
      (BitVec.setWidth 32
        (IntOp.ori (BitVec.ofBool (decide (f j < f x)))
          (IntOp.andi (BitVec.ofBool (decide (f x = f j)))
            (IntOp.cmpi CmpIPredicate.slt (BitVec.ofNat 32 x.val) (BitVec.ofNat 32 j.val))))))
      (if beats f x j then 1 else 0) := by
  rw [slt_word, andi_bool, ori_bool, bit_f32]
  simp only [Bool.or_eq_true, Bool.and_eq_true, decide_eq_true_eq]
  unfold beats
  split_ifs <;> rfl

open Classical in
theorem rank_sum (f : Fin 8 → EReal) (j : Fin 8) :
    (∑ x : Fin 8, if beats f x j then (1 : EReal) else 0) = (((rank f j : ℕ) : ℝ) : EReal) := by
  unfold rank
  rw [Finset.card_filter]
  have e : ∀ x : Fin 8, (if beats f x j then (1 : EReal) else 0) = (((if beats f x j then 1 else 0 : ℕ) : ℝ) : EReal) := fun x => by split_ifs <;> simp
  simp only [e, Fin.sum_univ_eight]
  push_cast
  rfl

open Classical in
/-- An entry counted and compared in words is kept exactly when fewer than three stand before it and it exceeds the threshold. -/
theorem counted (f : Fin 8 → EReal) (j : Fin 8) :
    @HMul.hMul EReal EReal EReal _ (f j) (FloatOps.sitofp (F := Ideal) FTy.f32
        (BitVec.setWidth 32
          (IntOp.andi
            (BitVec.ofBool
              (decide
                (@LT.lt EReal _ (@Finset.sum (Fin 8) EReal _ Finset.univ fun x => FloatOps.sitofp (F := Ideal) FTy.f32
                      (BitVec.setWidth 32
                        (IntOp.ori (BitVec.ofBool (decide (f j < f x)))
                          (IntOp.andi (BitVec.ofBool (decide (f x = f j)))
                            (IntOp.cmpi CmpIPredicate.slt (BitVec.ofNat 32 x.val) (BitVec.ofNat 32 j.val))))))
                  (Ideal.ofBits FTy.f32 1077936128#32))))
            (BitVec.ofBool (decide (@LT.lt EReal _ (Ideal.ofBits FTy.f32 1008981770#32) (f j)))))))
      = if rank f j < 3 ∧ (thr : EReal) < f j then f j else 0 := by
  rw [Finset.sum_congr rfl fun x _ => beats_word f x j, rank_sum, ofBits_three, ofBits_thr, andi_bool, bit_f32]
  have hc : ((((rank f j : ℕ) : ℝ) : EReal) < ((3 : ℝ) : EReal)) ↔ rank f j < 3 := by
    rw [EReal.coe_lt_coe_iff]; norm_cast
  simp only [Bool.and_eq_true, decide_eq_true_eq, hc]
  split_ifs
  · exact mul_one _
  · exact mul_zero _

/-- The weight kept, computed over eight entries. -/
theorem kept_padded (hl : ∀ j : Fin 8, l j = if h : j.val < 6 then a ⟨j.val, h⟩ else ⊥) (j : Fin 8) :
    (open Classical in if rank (fun j => Ideal.div (Ideal.exp (l j - top a)) (tot a)) j < 3 ∧ (thr : EReal) < Ideal.div (Ideal.exp (l j - top a)) (tot a)
      then Ideal.div (Ideal.exp (l j - top a)) (tot a) else 0) = if h : j.val < 6 then wm a ⟨j.val, h⟩ else 0 := by
  have hpad : ∀ j : Fin 8, ¬ j.val < 6 → Ideal.div (Ideal.exp (l j - top a)) (tot a) ≤ 0 := fun j hj => by
    rw [hl, dif_neg hj, exp_pad]; exact div_zero_le _
  have hin : ∀ i : Fin 6, Ideal.div (Ideal.exp (l ⟨i.val, by omega⟩ - top a)) (tot a) = sm a i := fun i => by
    rw [hl]
    exact congrArg (fun x => Ideal.div (Ideal.exp (x - top a)) (tot a)) (dif_pos i.isLt)
  have h0 : (0 : EReal) < thr := by exact_mod_cast thr_pos
  by_cases h : j.val < 6
  · rw [dif_pos h]
    unfold wm
    have hj : Ideal.div (Ideal.exp (l j - top a)) (tot a) = sm a ⟨j.val, h⟩ := hin ⟨j.val, h⟩
    rw [hj]
    by_cases ht : (thr : EReal) < sm a ⟨j.val, h⟩
    · have hr := rank_padded (sm a) (fun j => Ideal.div (Ideal.exp (l j - top a)) (tot a)) hin (hpad 6 (by decide)) (hpad 7 (by decide)) ⟨j.val, h⟩
        (lt_trans h0 ht)
      have hr' : rank (fun j => Ideal.div (Ideal.exp (l j - top a)) (tot a)) j = rank (sm a) ⟨j.val, h⟩ := hr
      rw [hr']
    · rw [if_neg fun q => ht q.2, if_neg fun q => ht q.2]
  · rw [dif_neg h, if_neg fun q => absurd (lt_trans h0 q.2) (not_lt.mpr (hpad j h))]

/-- A sum over eight entries of which the last two are 0. -/
theorem sum_padded (g : Fin 6 → EReal) : (∑ j : Fin 8, if h : j.val < 6 then g ⟨j.val, h⟩ else 0) = ∑ i, g i := by
  rw [Fin.sum_univ_castSucc, Fin.sum_univ_castSucc]
  rw [dif_neg (by decide), dif_neg (by decide), add_zero, add_zero]
  exact Finset.sum_congr rfl fun j _ => dif_pos j.isLt

end Padded

/-! ## A stable sort whose first three positions are marked -/

theorem stableSort_congr_sorted {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

section Sorted

variable {n : ℕ} (w : Fin n → EReal)

open Classical in
theorem sortedFrom_beats : sortedFrom (fun k k' => decide (w k' < w k)) = sortedFrom (fun k k' => decide (beats w k k')) := by
  have e : sortPositions n (fun k k' => decide (w k' < w k)) = sortPositions n (fun k k' => decide (beats w k k')) := by
    unfold sortPositions
    refine stableSort_congr_sorted _ _ (fun a b hab => ?_) _ (List.pairwise_lt_finRange n)
    refine decide_eq_decide.mpr ⟨Or.inl, fun q => ?_⟩
    rcases q with q | q
    · exact q
    · exact absurd q.2 (not_lt.mpr hab.le)
  funext k
  unfold sortedFrom
  rw [List.get_of_eq e]
  rfl

theorem beats_irrefl (i : Fin n) : ¬ beats w i i := by
  rintro (h | h)
  · exact lt_irrefl _ h
  · exact lt_irrefl _ h.2

theorem beats_total (i j : Fin n) (h : i ≠ j) : beats w i j ∨ beats w j i := by
  unfold beats
  rcases lt_trichotomy (w i) (w j) with q | q | q
  · exact Or.inr (Or.inl q)
  · rcases lt_or_gt_of_ne h with r | r
    · exact Or.inl (Or.inr ⟨q, r⟩)
    · exact Or.inr (Or.inr ⟨q.symm, r⟩)
  · exact Or.inl (Or.inl q)

theorem beats_trans {i j k : Fin n} (h : beats w i j) (h' : beats w j k) : beats w i k := by
  unfold beats at *
  rcases h with h | h <;> rcases h' with h' | h'
  · exact Or.inl (lt_trans h' h)
  · exact Or.inl (h'.1 ▸ h)
  · exact Or.inl (h.1 ▸ h')
  · exact Or.inr ⟨h.1.trans h'.1, lt_trans h.2 h'.2⟩

theorem not_beats_trans {i j k : Fin n} (h : ¬ beats w i j) (h' : ¬ beats w j k) : ¬ beats w i k := by
  intro q
  by_cases hij : i = j
  · subst hij; exact h' q
  · have := (beats_total w i j hij).resolve_left h
    exact h' (beats_trans w this q)

open Classical in
/-- The entry that the sort puts at position `p` has rank `p`. -/
theorem rank_sortedFrom (p : Fin n) : rank w (sortedFrom (fun k k' => decide (beats w k k')) p) = p.val := by
  set σ := sortedFrom (fun k k' : Fin n => decide (beats w k k')) with hσ
  have hinj : Function.Injective σ := sortedFrom_injective _
  have hbij : Function.Bijective σ := ⟨hinj, sortedFrom_surjective _⟩
  have hno : ∀ i j : Fin n, i < j → ¬ beats w (σ j) (σ i) := fun i j hij => by
    have q := sortedFrom_noInversion (fun k k' : Fin n => decide (beats w k k')) (fun k k' : Fin n => decide (beats w k k'))
      (fun a b q => by
        simp only [decide_eq_true_eq, decide_eq_false_iff_not] at q ⊢
        exact fun r => beats_irrefl w a (beats_trans w q r))
      (fun a b q => q)
      (fun a b c q r => by
        simp only [decide_eq_false_iff_not] at q r ⊢
        exact not_beats_trans w q r) i j hij
    exact of_decide_eq_false q
  have hlt : ∀ q : Fin n, beats w (σ q) (σ p) ↔ q < p := fun q => by
    rcases lt_trichotomy q p with r | r | r
    · refine ⟨fun _ => r, fun _ => (beats_total w _ _ fun e => r.ne (hinj e)).resolve_right (hno q p r)⟩
    · subst r; exact ⟨fun q => absurd q (beats_irrefl w _), fun q => absurd q (lt_irrefl _)⟩
    · exact ⟨fun s => absurd s (hno p q r), fun s => absurd s r.not_gt⟩
  unfold rank
  have e : (Finset.univ.filter fun j => beats w j (σ p)) = (Finset.univ.filter fun q => q < p).map ⟨σ, hinj⟩ := by
    ext j
    obtain ⟨q, rfl⟩ := hbij.2 j
    simp only [Finset.mem_filter, Finset.mem_univ, true_and, Finset.mem_map, Function.Embedding.coeFn_mk]
    exact ⟨fun h => ⟨q, (hlt q).mp h, rfl⟩, fun ⟨q', h, e⟩ => hinj e ▸ (hlt q').mpr h⟩
  rw [e, Finset.card_map]
  have e' : (Finset.univ.filter fun q => q < p) = Finset.Iio p := by ext q; simp
  rw [e', Fin.card_Iio]

open Classical in
/-- An entry stands in the first three positions exactly when its rank is below three. -/
theorem mem_first_three (hn : 3 ≤ n) (i : Fin n) :
    (∃ k : Fin 3, sortedFrom (fun k k' => decide (w k' < w k)) ⟨k.val, by omega⟩ = i) ↔ rank w i < 3 := by
  rw [sortedFrom_beats]
  constructor
  · rintro ⟨k, rfl⟩
    rw [rank_sortedFrom]
    exact k.isLt
  · intro h
    obtain ⟨p, rfl⟩ := sortedFrom_surjective (fun k k' => decide (beats w k k')) i
    rw [rank_sortedFrom] at h
    exact ⟨⟨p.val, h⟩, rfl⟩

end Sorted

end Cert.Weights

end
-- ==== Proof.Hand.Spec.lean ====
/- The operation as mathematics at one output element, and the two arrangements of it.

   `tap z X r q` is the image `X` of 224 × 224 read in the coordinates of the image with one line of `z` around it. An output element reads nine taps of each of
   96 channels. The kernel multiplies, for each of the nine taps, by one matrix into which the skip, the average, the depthwise-and-pointwise product and the plain
   pointwise matrix are folded with their weights; the reference computes the branches apart and adds them with their weights. -/
module

public import proofs.«01_k».proof.Proof.Hand.Weights

@[expose] public section

noncomputable section

namespace Cert.Spec

open Idealize.ShloMosaic Cert.Consts Cert.Weights

/-- The image with a line of `z` around it. -/
def tap (z : EReal) (X : Fin 224 → Fin 224 → EReal) (r q : ℕ) : EReal :=
  if h : (1 ≤ r ∧ r ≤ 224) ∧ (1 ≤ q ∧ q ≤ 224) then X ⟨r - 1, by omega⟩ ⟨q - 1, by omega⟩ else z

theorem tap_in (z : EReal) (X : Fin 224 → Fin 224 → EReal) (r q : Fin 224) : tap z X (r.val + 1) (q.val + 1) = X r q := by
  unfold tap
  rw [dif_pos ⟨⟨by omega, by omega⟩, by omega, by omega⟩]
  rfl

theorem tap_out (z : EReal) (X : Fin 224 → Fin 224 → EReal) (r q : ℕ) (h : ¬ ((1 ≤ r ∧ r ≤ 224) ∧ (1 ≤ q ∧ q ≤ 224))) : tap z X r q = z := dif_neg h

/-- The greatest of nine. -/
def max9 (t : Fin 9 → EReal) : EReal :=
  max (max (max (max (t 0) (t 1)) (t 2)) (max (max (t 3) (t 4)) (t 5))) (max (max (t 6) (t 7)) (t 8))

theorem le_max9 (t : Fin 9 → EReal) (k : Fin 9) : t k ≤ max9 t := by
  unfold max9
  fin_cases k <;> simp

theorem max9_le (t : Fin 9 → EReal) (b : EReal) (h : ∀ k, t k ≤ b) : max9 t ≤ b := by
  unfold max9
  simp only [max_le_iff]
  exact ⟨⟨⟨⟨h 0, h 1⟩, h 2⟩, ⟨h 3, h 4⟩, h 5⟩, ⟨h 6, h 7⟩, h 8⟩

/-- An image with no element below `-big`: a line of `-big` around it has the maxima over windows of a line of -infinity. -/
theorem max9_line (X : Fin 224 → Fin 224 → EReal) (hX : ∀ r q, ((-big : ℝ) : EReal) ≤ X r q) (h w : Fin 224) :
    max9 (fun k => tap ((-big : ℝ) : EReal) X (h.val + k.val / 3) (w.val + k.val % 3)) = max9 (fun k => tap ⊥ X (h.val + k.val / 3) (w.val + k.val % 3)) := by
  refine le_antisymm (max9_le _ _ fun k => ?_) (max9_le _ _ fun k => ?_)
  · by_cases hk : (1 ≤ h.val + k.val / 3 ∧ h.val + k.val / 3 ≤ 224) ∧ (1 ≤ w.val + k.val % 3 ∧ w.val + k.val % 3 ≤ 224)
    · refine le_trans (le_of_eq ?_) (le_max9 _ k)
      show tap _ X _ _ = tap ⊥ X _ _
      unfold tap
      rw [dif_pos hk, dif_pos hk]
    · rw [tap_out _ _ _ _ hk]
      refine le_trans ?_ (le_max9 _ 4)
      show _ ≤ tap ⊥ X (h.val + 1) (w.val + 1)
      rw [tap_in]
      exact hX h w
  · refine le_trans ?_ (le_max9 _ k)
    show tap ⊥ X _ _ ≤ tap ((-big : ℝ) : EReal) X _ _
    unfold tap
    split_ifs
    · exact le_refl _
    · exact bot_le

/-- What both programs compute at one element of channel `o`: `T k ch` is tap `k` of channel `ch`, `V` the maximum over the window. -/
def branches (a : Fin 6 → EReal) (T : Fin 9 → Fin 96 → EReal) (V : EReal) (D : Fin 96 → Fin 9 → EReal) (P W : Fin 96 → EReal) (o : Fin 96) : EReal :=
  wn a 1 * T 4 o + wn a 2 * Ideal.div (∑ k, T k o) ((9 : ℝ) : EReal) + wn a 3 * V + wn a 4 * (∑ ch, P ch * ∑ k, D ch k * T k ch)
    + wn a 5 * ∑ ch, W ch * T 4 ch

/-- The matrix of tap `k`, row `o`. -/
def mat (a : Fin 6 → EReal) (D : Fin 96 → Fin 9 → EReal) (P W : Fin 96 → EReal) (o : Fin 96) (k : Fin 9) (ch : Fin 96) : EReal :=
  if k = 4 then wn a 4 * P ch * D ch k + Ideal.div (wn a 2) ((9 : ℝ) : EReal) * (if o = ch then 1 else 0) + wn a 5 * W ch + wn a 1 * (if o = ch then 1 else 0)
  else wn a 4 * P ch * D ch k + Ideal.div (wn a 2) ((9 : ℝ) : EReal) * (if o = ch then 1 else 0)

theorem div_nine (r : ℝ) : Ideal.div (r : EReal) ((9 : ℝ) : EReal) = ((r * 9⁻¹ : ℝ) : EReal) := by
  unfold Ideal.div
  rw [if_neg (by norm_num), EReal.coe_mul, EReal.coe_inv]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert i s hi ih =>
    rw [Finset.sum_insert hi, Finset.sum_insert hi, EReal.left_distrib_of_nonneg_of_ne_top (by exact_mod_cast hr) (EReal.coe_ne_top r), ih]

/-- A real factor taken into a sum of a real, a nonnegative real times anything, and a real. -/
theorem expand (r s w t : ℝ) (hw : 0 ≤ w) (W : EReal) :
    ((r : EReal) + (w : EReal) * W + (s : EReal)) * (t : EReal) = ((r * t + s * t : ℝ) : EReal) + (w : EReal) * (W * (t : EReal)) := by
  induction W using EReal.rec with
  | coe W => norm_cast; ring
  | bot =>
    rcases eq_or_lt_of_le hw with rfl | hw
    · simp only [EReal.coe_zero, zero_mul, add_zero]; norm_cast; ring
    · rw [EReal.coe_mul_bot_of_pos hw, EReal.add_bot, EReal.bot_add]
      rcases lt_trichotomy t 0 with ht | rfl | ht
      · rw [EReal.bot_mul_coe_of_neg ht, EReal.coe_mul_top_of_pos hw, EReal.coe_add_top]
      · simp
      · rw [EReal.bot_mul_coe_of_pos ht, EReal.coe_mul_bot_of_pos hw, EReal.add_bot]
  | top =>
    rcases eq_or_lt_of_le hw with rfl | hw
    · simp only [EReal.coe_zero, zero_mul, add_zero]; norm_cast; ring
    · rw [EReal.coe_mul_top_of_pos hw, EReal.coe_add_top, EReal.top_add_coe]
      rcases lt_trichotomy t 0 with ht | rfl | ht
      · rw [EReal.top_mul_coe_of_neg ht, EReal.coe_mul_bot_of_pos hw, EReal.add_bot]
      · simp
      · rw [EReal.top_mul_coe_of_pos ht, EReal.coe_mul_top_of_pos hw, EReal.coe_add_top]

theorem split (f : Fin 9 → Fin 96 → EReal) (g : Fin 9 → Fin 96 → ℝ) (q : Fin 96 → EReal) (e : ∀ k ch, f k ch = (g k ch : EReal) + if k = 4 then q ch else 0) :
    (∑ k, ∑ ch, f k ch) = ((∑ k, ∑ ch, g k ch : ℝ) : EReal) + ∑ ch, q ch := by
  simp only [e, Finset.sum_add_distrib, coe_sum]
  congr 1
  rw [Finset.sum_eq_single (4 : Fin 9) (fun k _ hk => Finset.sum_eq_zero fun ch _ => if_neg hk) (fun h => absurd (Finset.mem_univ _) h)]
  exact Finset.sum_congr rfl fun ch _ => if_pos rfl

/-- The nine matrices times the nine taps, plus the weighted maximum, are the branches added with their weights. -/
theorem folded (a : Fin 6 → EReal) (T : Fin 9 → Fin 96 → EReal) (V : EReal) (D : Fin 96 → Fin 9 → EReal) (P W : Fin 96 → EReal) (o : Fin 96)
    (hT : ∀ k ch, ∃ r : ℝ, T k ch = r) (hV : ∃ r : ℝ, V = r) (hD : ∀ ch k, ∃ r : ℝ, D ch k = r) (hP : ∀ ch, ∃ r : ℝ, P ch = r) :
    (∑ k, ∑ ch, mat a D P W o k ch * T k ch) + wn a 3 * V = branches a T V D P W o := by
  choose t ht using hT
  obtain ⟨v, rfl⟩ := hV
  choose d hd using hD
  choose p hp using hP
  choose w hw0 hw using wn_real a
  have e : ∀ k ch, mat a D P W o k ch * T k ch
      = ((w 4 * p ch * d ch k * t k ch + (w 2 * 9⁻¹ + if k = 4 then w 1 else 0) * (if o = ch then t k ch else 0) : ℝ) : EReal)
        + if k = 4 then (w 5 : EReal) * (W ch * T 4 ch) else 0 := by
    intro k ch
    have e1 : (if o = ch then (1 : EReal) else 0) = ((if o = ch then 1 else 0 : ℝ) : EReal) := by split_ifs <;> rfl
    unfold mat
    rw [e1, hp, hd, ht, ht]
    simp only [hw, div_nine]
    by_cases hk : k = 4
    · subst hk
      rw [if_pos rfl, if_pos rfl, if_pos rfl]
      simp only [← EReal.coe_mul, ← EReal.coe_add]
      rw [expand _ _ _ _ (hw0 5)]
      congr 2
      split_ifs <;> ring
    · rw [if_neg hk, if_neg hk, if_neg hk]
      norm_cast
      rw [add_zero]
      norm_cast
      split_ifs <;> ring
  have hs : (∑ k, ∑ ch, mat a D P W o k ch * T k ch)
      = ((∑ k, ∑ ch, (w 4 * p ch * d ch k * t k ch + (w 2 * 9⁻¹ + if k = 4 then w 1 else 0) * (if o = ch then t k ch else 0)) : ℝ) : EReal)
        + (w 5 : EReal) * ∑ ch, W ch * T 4 ch := by
    rw [mul_sum _ _ (hw0 5)]
    exact split _ (fun k ch => w 4 * p ch * d ch k * t k ch + (w 2 * 9⁻¹ + if k = 4 then w 1 else 0) * (if o = ch then t k ch else 0)) _ e
  have hr : (∑ k, ∑ ch, (w 4 * p ch * d ch k * t k ch + (w 2 * 9⁻¹ + if k = 4 then w 1 else 0) * (if o = ch then t k ch else 0)) : ℝ) + w 3 * v
      = w 1 * t 4 o + w 2 * ((∑ k, t k o) * 9⁻¹) + w 3 * v + w 4 * ∑ ch, p ch * ∑ k, d ch k * t k ch := by
    have h1 : (∑ k, ∑ ch, (w 4 * p ch * d ch k * t k ch) : ℝ) = w 4 * ∑ ch, p ch * ∑ k, d ch k * t k ch := by
      rw [Finset.sum_comm, Finset.mul_sum]
      refine Finset.sum_congr rfl fun ch _ => ?_
      rw [Finset.mul_sum, Finset.mul_sum]
      exact Finset.sum_congr rfl fun k _ => by ring
    have h2 : (∑ k, ∑ ch, ((w 2 * 9⁻¹ + if k = 4 then w 1 else 0) * (if o = ch then t k ch else 0)) : ℝ) = w 2 * ((∑ k, t k o) * 9⁻¹) + w 1 * t 4 o := by
      have : ∀ k : Fin 9, (∑ ch, ((w 2 * 9⁻¹ + if k = 4 then w 1 else 0) * (if o = ch then t k ch else 0)) : ℝ) = w 2 * 9⁻¹ * t k o + if k = 4 then w 1 * t 4 o else 0 := by
        intro k
        rw [Finset.sum_eq_single o (fun ch _ h => by rw [if_neg (Ne.symm h), mul_zero]) (fun h => absurd (Finset.mem_univ _) h), if_pos rfl]
        by_cases hk : k = 4
        · subst hk; rw [if_pos rfl, if_pos rfl]; ring
        · rw [if_neg hk, if_neg hk]; ring
      simp only [this, Finset.sum_add_distrib, ← Finset.mul_sum]
      rw [Finset.sum_ite_eq' Finset.univ (4 : Fin 9)]
      rw [if_pos (Finset.mem_univ _)]
      ring
    simp only [Finset.sum_add_distrib] at *
    rw [h1, h2]
    ring
  rw [hs, add_right_comm]
  unfold branches
  have hsep : (∑ ch, P ch * ∑ k, D ch k * T k ch) = ((∑ ch, p ch * ∑ k, d ch k * t k ch : ℝ) : EReal) := by
    rw [coe_sum]
    refine Finset.sum_congr rfl fun ch _ => ?_
    rw [hp, EReal.coe_mul, coe_sum]
    refine congrArg _ (Finset.sum_congr rfl fun k _ => ?_)
    rw [hd, ht, EReal.coe_mul]
  have havg : (∑ k, T k o) = ((∑ k, t k o : ℝ) : EReal) := by
    rw [coe_sum]
    exact Finset.sum_congr rfl fun k _ => ht k o
  rw [hsep, havg, div_nine, ht 4 o]
  simp only [hw]
  rw [← EReal.coe_mul (w 3) v, ← EReal.coe_add, hr]
  norm_cast

/-- The result at channel `o`, row `r`, column `q` of one image `X`: the branches over the taps around the position. -/
def outAt (X : Fin 96 → Fin 224 → Fin 224 → EReal) (a : Fin 6 → EReal) (D : Fin 96 → Fin 9 → EReal) (P W : Fin 96 → Fin 96 → EReal)
    (o : Fin 96) (r q : ℕ) : EReal :=
  branches a (fun k ch => tap 0 (X ch) (r + k.val / 3) (q + k.val % 3)) (max9 fun k => tap ⊥ (X o) (r + k.val / 3) (q + k.val % 3)) D (P o) (W o) o

end Cert.Spec

end
-- ==== Proof.Hand.Block.lean ====
/- What one block of the kernel computes, at an index: block `ib` of 32 rows of one image, output channel `o`, column `p` of the 7168 = 32 × 224 columns.
   Its inputs are given by what they hold: `X` the image's channels, `a` the six logits, `D`, `P`, `W` the weight matrices, and the six tables. -/
module

public import proofs.«01_k».proof.Proof.Gen.KernelIdeal.Value
public import proofs.«01_k».proof.Proof.Hand.Spec
public import Idealize.ShloMosaic.Lib.Pointwise

@[expose] public section

set_option maxRecDepth 16384

noncomputable section

namespace Cert.Block

open Cert.KernelIdeal Cert.KernelIdeal.Gen Idealize.ShloMosaic Idealize.ShloMosaic.TcCoe Idealize.SL.Sem Cert.Consts Cert.Weights Cert.Spec

/-! ## The weights -/

section WeightColumn

variable (a : Fin 6 → EReal) (l : Fin 8 → EReal) (hl : ∀ j : Fin 8, l j = if h : j.val < 6 then a ⟨j.val, h⟩ else ⊥)
  (x0 : S1x8.Idx → EReal) (x1 : S8x1.Idx → EReal) (h0 : ∀ j : Fin 8, x0 (ix2 0 j) = l j) (h1 : ∀ j : Fin 8, x1 (ix2 j 0) = l j)

include hl h0 h1

theorem column_at (j : Fin 8) : @Eq EReal (k0_pay2 (F := Ideal) x0 x1 (ix2 j 0)) (if h : j.val < 6 then wm a ⟨j.val, h⟩ else 0) := by
  unfold_payloads
  pointwise
  simp only [h0, h1, ofBits_bot, top_padded a l hl, Finset.univ_unique, Finset.sum_singleton, tot_padded a l hl]
  exact (counted (fun j => Ideal.div (Ideal.exp (l j - top a)) (tot a)) j).trans (kept_padded a l hl j)

theorem total_at : @Eq EReal (k0_pay3 (F := Ideal) x0 x1 (ix3 0 0 0)) (∑ i, wm a i) := by
  unfold k0_pay3
  pointwise
  simp only [column_at a l hl x0 x1 h0 h1, Finset.univ_unique, Finset.sum_singleton]
  exact sum_padded (wm a)

omit hl h0 h1 in
theorem pick (v44 : S8x1.Idx → EReal) (t : EReal) (n : Fin 8) (w : BitVec 32) (hw : w = BitVec.ofNat 32 n.val) :
    (∑ x : Fin 8, ∑ _x : Fin 1, Scalar.select (IntOp.cmpi CmpIPredicate.eq (BitVec.ofNat 32 x.val) w) (Ideal.div (v44 (ix2 x 0)) t) 0)
      = Ideal.div (v44 (ix2 n 0)) t := by
  subst hw
  have e : ∀ x n : Fin 8, IntOp.cmpi CmpIPredicate.eq (BitVec.ofNat 32 x.val) (BitVec.ofNat 32 n.val) = BitVec.ofBool (decide (x = n)) := by decide
  simp only [e, Finset.univ_unique, Finset.sum_singleton]
  rw [Finset.sum_eq_single n (fun x _ hx => by simp [hx, Scalar.select]) (fun h => absurd (Finset.mem_univ _) h)]
  simp [Scalar.select]

theorem pick_at (n : Fin 8) (hn : n.val < 6) (w : BitVec 32) (hw : w = BitVec.ofNat 32 n.val) :
    (∑ x : Fin 8, ∑ _x : Fin 1, Scalar.select (IntOp.cmpi CmpIPredicate.eq (BitVec.ofNat 32 x.val) w)
        (Ideal.div (k0_pay2 (F := Ideal) x0 x1 (ix2 x 0)) (@HAdd.hAdd EReal EReal EReal _ (k0_pay3 (F := Ideal) x0 x1 (ix3 0 0 0)) (Ideal.ofBits FTy.f32 841731191#32))) 0)
      = wn a ⟨n.val, hn⟩ := by
  rw [pick _ _ n w hw, total_at a l hl x0 x1 h0 h1, column_at a l hl x0 x1 h0 h1, dif_pos hn, ofBits_eps]
  rfl

theorem pay5_at : k0_pay5 (F := Ideal) (k0_pay2 x0 x1) (k0_pay3 x0 x1) = wn a 1 := by
  refine Eq.trans ?_ (pick_at a l hl x0 x1 h0 h1 1 (by decide) 1#32 rfl)
  unfold k0_pay5 k0_pay4
  pointwise

theorem pay6_at : k0_pay6 (F := Ideal) (k0_pay2 x0 x1) (k0_pay3 x0 x1) = wn a 2 := by
  refine Eq.trans ?_ (pick_at a l hl x0 x1 h0 h1 2 (by decide) 2#32 rfl)
  unfold k0_pay6 k0_pay4
  pointwise

theorem pay7_at : k0_pay7 (F := Ideal) (k0_pay2 x0 x1) (k0_pay3 x0 x1) = wn a 3 := by
  refine Eq.trans ?_ (pick_at a l hl x0 x1 h0 h1 3 (by decide) 3#32 rfl)
  unfold k0_pay7 k0_pay4
  pointwise

theorem pay8_at : k0_pay8 (F := Ideal) (k0_pay2 x0 x1) (k0_pay3 x0 x1) = wn a 4 := by
  refine Eq.trans ?_ (pick_at a l hl x0 x1 h0 h1 4 (by decide) 4#32 rfl)
  unfold k0_pay8 k0_pay4
  pointwise

theorem pay10_at : k0_pay10 (F := Ideal) (k0_pay9 (k0_pay2 x0 x1) (k0_pay3 x0 x1)) = wn a 5 := by
  refine Eq.trans ?_ (pick_at a l hl x0 x1 h0 h1 5 (by decide) 5#32 rfl)
  unfold k0_pay10 k0_pay9 k0_pay4
  pointwise

end WeightColumn

/-! ## The matrices -/

section Matrices

theorem eye_word (o ch : Fin 96) :
    @Eq EReal (FloatOps.sitofp (F := Ideal) FTy.f32 (BitVec.setWidth 32 (IntOp.cmpi CmpIPredicate.eq (BitVec.ofNat 32 o.val) (BitVec.ofNat 32 ch.val))))
      (if o = ch then 1 else 0) := by
  have e : IntOp.cmpi CmpIPredicate.eq (BitVec.ofNat 32 o.val) (BitVec.ofNat 32 ch.val) = BitVec.ofBool (decide (o = ch)) := by
    have : (BitVec.ofNat 32 o.val = BitVec.ofNat 32 ch.val) ↔ o = ch := by
      rw [← BitVec.toNat_inj, BitVec.toNat_ofNat, BitVec.toNat_ofNat, Nat.mod_eq_of_lt (by omega), Nat.mod_eq_of_lt (by omega), Fin.ext_iff]
    by_cases h : o = ch
    · subst h; simp [IntOp.cmpi]
    · have h' : ¬ (BitVec.ofNat 32 o.val = BitVec.ofNat 32 ch.val) := fun q => h (this.mp q)
      have h'' := beq_false_of_ne h'
      simp [IntOp.cmpi, h, h'']
  rw [e, bit_f32]
  simp

variable (a : Fin 6 → EReal) (x2 x3 : S96x96.Idx → EReal) (x4 : S96x9.Idx → EReal) (o ch : Fin 96)
  (D : Fin 96 → Fin 9 → EReal) (P W : Fin 96 → Fin 96 → EReal)
  (h2 : ∀ o ch : Fin 96, x2 (ix2 o ch) = W o ch) (h3 : ∀ o ch : Fin 96, x3 (ix2 o ch) = P o ch) (h4 : ∀ (ch : Fin 96) (k : Fin 9), x4 (ix2 ch k) = D ch k)

include h3 h4

theorem pay23_at : @Eq EReal (k0_pay23 (F := Ideal) (wn a 2) (wn a 4) x4 x3 (ix2 o ch)) (mat a D (P o) (W o) o 0 ch) := by
  unfold k0_pay23 k0_pay20 k0_pay21 k0_pay22 k0_pay19
  pointwise
  rw [eye_word, ofBits_nine, h3, h4]
  rfl

theorem pay25_at : @Eq EReal (k0_pay25 (F := Ideal) (wn a 2) (wn a 4) x4 x3 (ix2 o ch)) (mat a D (P o) (W o) o 1 ch) := by
  unfold k0_pay25 k0_pay20 k0_pay21 k0_pay22 k0_pay19
  pointwise
  rw [eye_word, ofBits_nine, h3, h4]
  rfl

theorem pay27_at : @Eq EReal (k0_pay27 (F := Ideal) (k0_pay20 x4) (k0_pay21 (wn a 4) x3) (k0_pay22 (wn a 2)) (ix2 o ch)) (mat a D (P o) (W o) o 2 ch) := by
  unfold k0_pay27 k0_pay20 k0_pay21 k0_pay22 k0_pay19
  pointwise
  rw [eye_word, ofBits_nine, h3, h4]
  rfl

theorem pay29_at : @Eq EReal (k0_pay29 (F := Ideal) (k0_pay20 x4) (k0_pay21 (wn a 4) x3) (k0_pay22 (wn a 2)) (ix2 o ch)) (mat a D (P o) (W o) o 3 ch) := by
  unfold k0_pay29 k0_pay20 k0_pay21 k0_pay22 k0_pay19
  pointwise
  rw [eye_word, ofBits_nine, h3, h4]
  rfl

theorem pay33_at : @Eq EReal (k0_pay33 (F := Ideal) (k0_pay20 x4) (k0_pay21 (wn a 4) x3) (k0_pay22 (wn a 2)) (ix2 o ch)) (mat a D (P o) (W o) o 5 ch) := by
  unfold k0_pay33 k0_pay20 k0_pay21 k0_pay22 k0_pay19
  pointwise
  rw [eye_word, ofBits_nine, h3, h4]
  rfl

theorem pay35_at : @Eq EReal (k0_pay35 (F := Ideal) (k0_pay20 x4) (k0_pay21 (wn a 4) x3) (k0_pay22 (wn a 2)) (ix2 o ch)) (mat a D (P o) (W o) o 6 ch) := by
  unfold k0_pay35 k0_pay20 k0_pay21 k0_pay22 k0_pay19
  pointwise
  rw [eye_word, ofBits_nine, h3, h4]
  rfl

theorem pay37_at : @Eq EReal (k0_pay37 (F := Ideal) (k0_pay20 x4) (k0_pay21 (wn a 4) x3) (k0_pay22 (wn a 2)) (ix2 o ch)) (mat a D (P o) (W o) o 7 ch) := by
  unfold k0_pay37 k0_pay20 k0_pay21 k0_pay22 k0_pay19
  pointwise
  rw [eye_word, ofBits_nine, h3, h4]
  rfl

theorem pay39_at : @Eq EReal (k0_pay39 (F := Ideal) (k0_pay20 x4) (k0_pay21 (wn a 4) x3) (k0_pay22 (wn a 2)) (ix2 o ch)) (mat a D (P o) (W o) o 8 ch) := by
  unfold k0_pay39 k0_pay20 k0_pay21 k0_pay22 k0_pay19
  pointwise
  rw [eye_word, ofBits_nine, h3, h4]
  rfl

include h2 in
theorem pay31_at : @Eq EReal (k0_pay31 (F := Ideal) (wn a 1) (wn a 5) (k0_pay19 (F := Ideal)) (k0_pay20 x4) (k0_pay21 (wn a 4) x3) (k0_pay22 (wn a 2)) x2 (ix2 o ch))
    (mat a D (P o) (W o) o 4 ch) := by
  unfold k0_pay31 k0_pay20 k0_pay21 k0_pay22 k0_pay19
  pointwise
  rw [eye_word, ofBits_nine, h2, h3, h4]
  rfl

end Matrices

/-! ## The shifted rows -/

theorem tap_eq (z : EReal) (X : Fin 224 → Fin 224 → EReal) {r q : ℕ} (r' q' : Fin 224) (hr : r = r'.val + 1) (hq : q = q'.val + 1) : tap z X r q = X r' q' := by
  subst hr hq
  exact tap_in z X r' q'

/-- The row of the image that holds position `p` of block `ib`. -/
def rowIn (ib : Fin 7) (p : Fin 7168) : Fin 224 := ⟨ib.val * 32 + p.val / 224, by omega⟩

/-- The column of the image that holds position `p` of a block. -/
def colIn (p : Fin 7168) : Fin 224 := ⟨p.val % 224, by omega⟩

/-- The row above block `ib`, in the first block its first row. -/
def rowAbove (ib : Fin 7) : Fin 224 := ⟨ib.val * 32 - 1, by omega⟩

/-- The row below block `ib`, in the last block its last row. -/
def rowBelow (ib : Fin 7) : Fin 224 := ⟨min (ib.val * 32 + 32) 223, by omega⟩

section Rows

variable (ib : Fin 7) (X : Fin 96 → Fin 224 → Fin 224 → EReal)
  (x11 : S1x96x7168.Idx → EReal) (x12 x13 : S1x1x96x224.Idx → EReal)
  (h11 : ∀ (ch : Fin 96) (p : Fin 7168), x11 (ix3 0 ch p) = X ch (rowIn ib p) (colIn p))
  (h12 : ∀ (ch : Fin 96) (w : Fin 224), x12 (ix4 0 0 ch w) = X ch (rowAbove ib) w)
  (h13 : ∀ (ch : Fin 96) (w : Fin 224), x13 (ix4 0 0 ch w) = X ch (rowBelow ib) w)

theorem first_word : ∀ ib : Fin 7, Scalar.cmpi CmpIPredicate.eq (BitVec.ofNat 32 ib.val) 0#32 = BitVec.ofBool (decide (ib.val = 0)) := by decide
theorem last_word : ∀ ib : Fin 7, Scalar.cmpi CmpIPredicate.eq (BitVec.ofNat 32 ib.val) 6#32 = BitVec.ofBool (decide (ib.val = 6)) := by decide

theorem select_ofBool {α : Type} (q : Prop) [Decidable q] (x y : α) : Scalar.select (BitVec.ofBool (decide q)) x y = if q then x else y := by
  by_cases h : q <;> simp [h, Scalar.select]

include h11 h12 h13

/-- The 34 rows that a block reads, one after the other: rows outside the image are 0. -/
theorem rows_at (ch : Fin 96) (q : Fin 7616) :
    @Eq EReal (k0_pay11 (F := Ideal) (BitVec.ofNat 32 ib.val) x11 x12 x13 (ix2 ch q)) (tap 0 (X ch) (ib.val * 32 + q.val / 224) (q.val % 224 + 1)) := by
  have hf := first_word ib
  have hg := last_word ib
  unfold k0_pay11
  generalize Scalar.cmpi CmpIPredicate.eq (BitVec.ofNat 32 ib.val) 0#32 = wf at hf ⊢
  generalize Scalar.cmpi CmpIPredicate.eq (BitVec.ofNat 32 ib.val) 6#32 = wg at hg ⊢
  pointwise
  by_cases g : q.val < 224
  · refine (dif_pos g).trans ((congrArg (fun w => Scalar.select w _ _) hf).trans ((select_ofBool _ _ _).trans ?_))
    by_cases g0 : ib.val = 0
    · exact (if_pos g0).trans (tap_out _ _ _ _ (by omega)).symm
    · exact (if_neg g0).trans ((h12 ch _).trans
        (tap_eq _ _ _ _ (by show _ = ib.val * 32 - 1 + 1; omega) (by show _ = q.val + 1; omega)).symm)
  · refine (dif_neg g).trans ?_
    by_cases g1 : q.val - 224 < 7168
    · exact (dif_pos g1).trans ((h11 ch _).trans (tap_eq _ _ _ _ (by show _ = ib.val * 32 + (q.val - 224) / 224 + 1; omega)
        (by show _ = (q.val - 224) % 224 + 1; omega)).symm)
    · refine (dif_neg g1).trans ((congrArg (fun w => Scalar.select w _ _) hg).trans ((select_ofBool _ _ _).trans ?_))
      by_cases g0 : ib.val = 6
      · exact (if_pos g0).trans (tap_out _ _ _ _ (by omega)).symm
      · exact (if_neg g0).trans ((h13 ch _).trans (tap_eq _ _ _ _ (by show _ = min (ib.val * 32 + 32) 223 + 1; omega)
          (by show _ = q.val - 224 - 7168 + 1; omega)).symm)

/-- The rows moved one column to the right, not yet masked. -/
theorem left_at (ch : Fin 96) (q : Fin 7616) :
    @Eq EReal (k0_pay13 (F := Ideal) (BitVec.ofNat 32 ib.val) x11 x12 x13 (ix2 ch q))
      (if q.val < 1 then 0 else tap 0 (X ch) (ib.val * 32 + (q.val - 1) / 224) ((q.val - 1) % 224 + 1)) := by
  have e := rows_at ib X x11 x12 x13 h11 h12 h13 ch
  unfold k0_pay13
  generalize k0_pay11 (F := Ideal) (BitVec.ofNat 32 ib.val) x11 x12 x13 = Y at e ⊢
  unfold k0_pay12
  pointwise
  split_ifs with g <;> first | rfl | exact e _

/-- The rows moved one column to the left, not yet masked. -/
theorem right_at (ch : Fin 96) (q : Fin 7616) :
    @Eq EReal (k0_pay14 (F := Ideal) (BitVec.ofNat 32 ib.val) x11 x12 x13 (ix2 ch q))
      (if q.val < 7615 then tap 0 (X ch) (ib.val * 32 + (1 + q.val) / 224) ((1 + q.val) % 224 + 1) else 0) := by
  have e := rows_at ib X x11 x12 x13 h11 h12 h13 ch
  unfold k0_pay14
  generalize k0_pay11 (F := Ideal) (BitVec.ofNat 32 ib.val) x11 x12 x13 = Y at e ⊢
  unfold k0_pay12
  pointwise
  split_ifs with g <;> first | rfl | exact e _

theorem left_masked (x5 : S1x7616.Idx → EReal) (h5 : ∀ q : Fin 7616, x5 (ix2 0 q) = if 0 < q.val % 224 then 1 else 0) (ch : Fin 96) (q : Fin 7616) :
    @Eq EReal (k0_pay15 (F := Ideal) (BitVec.ofNat 32 ib.val) x11 x12 x13 x5 (ix2 ch q)) (tap 0 (X ch) (ib.val * 32 + q.val / 224) (q.val % 224)) := by
  have e := left_at ib X x11 x12 x13 h11 h12 h13 ch q
  unfold k0_pay15
  generalize k0_pay13 (F := Ideal) (BitVec.ofNat 32 ib.val) x11 x12 x13 = Y at e ⊢
  pointwise
  rw [h5, e]
  by_cases g : 0 < q.val % 224
  · rw [if_pos g, mul_one, if_neg (by omega)]
    congr 1 <;> omega
  · rw [if_neg g, mul_zero, tap_out _ _ _ _ (by omega)]

theorem right_masked (x6 : S1x7616.Idx → EReal) (h6 : ∀ q : Fin 7616, x6 (ix2 0 q) = if q.val % 224 < 223 then 1 else 0) (ch : Fin 96) (q : Fin 7616) :
    @Eq EReal (k0_pay16 (F := Ideal) (BitVec.ofNat 32 ib.val) x11 x12 x13 x6 (ix2 ch q)) (tap 0 (X ch) (ib.val * 32 + q.val / 224) (q.val % 224 + 2)) := by
  have e := right_at ib X x11 x12 x13 h11 h12 h13 ch q
  unfold k0_pay16
  generalize k0_pay14 (F := Ideal) (BitVec.ofNat 32 ib.val) x11 x12 x13 = Y at e ⊢
  pointwise
  rw [h6, e]
  by_cases g : q.val % 224 < 223
  · rw [if_pos g, mul_one, if_pos (by omega)]
    congr 1 <;> omega
  · rw [if_neg g, mul_zero, tap_out _ _ _ _ (by omega)]

/-! ## The maximum over the window -/

omit h11 h12 h13 in
/-- One row of three, clipped: outside the image `-big`. -/
theorem clip_row (Y : Fin 224 → Fin 224 → EReal) (hY : ∀ r c, ((-big : ℝ) : EReal) ≤ Y r c ∧ Y r c ≤ (big : EReal)) (q : Fin 7616) :
    min (max (max (min (if q.val < 1 then 0 else tap 0 Y (ib.val * 32 + (q.val - 1) / 224) ((q.val - 1) % 224 + 1))
            (if 0 < q.val % 224 then (big : EReal) else ((-big : ℝ) : EReal)))
          (tap 0 Y (ib.val * 32 + q.val / 224) (q.val % 224 + 1)))
        (min (if q.val < 7615 then tap 0 Y (ib.val * 32 + (1 + q.val) / 224) ((1 + q.val) % 224 + 1) else 0)
          (if q.val % 224 < 223 then (big : EReal) else ((-big : ℝ) : EReal))))
      (min (if ib.val = 0 then (if q.val < 224 then ((-big : ℝ) : EReal) else (big : EReal)) else (big : EReal))
        (if ib.val = 6 then (if 7392 ≤ q.val then ((-big : ℝ) : EReal) else (big : EReal)) else (big : EReal)))
      = max (max (tap ((-big : ℝ) : EReal) Y (ib.val * 32 + q.val / 224) (q.val % 224)) (tap ((-big : ℝ) : EReal) Y (ib.val * 32 + q.val / 224) (q.val % 224 + 1)))
          (tap ((-big : ℝ) : EReal) Y (ib.val * 32 + q.val / 224) (q.val % 224 + 2)) := by
  have hb : ((-big : ℝ) : EReal) ≤ (big : EReal) := by exact_mod_cast (by linarith [big_pos] : -big ≤ big)
  have hb0 : ((-big : ℝ) : EReal) ≤ 0 := by exact_mod_cast (by linarith [big_pos] : -big ≤ 0)
  have h0b : (0 : EReal) ≤ (big : EReal) := by exact_mod_cast big_pos.le
  have ht : ∀ r c, ((-big : ℝ) : EReal) ≤ tap 0 Y r c ∧ tap 0 Y r c ≤ (big : EReal) := fun r c => by
    unfold tap
    split_ifs
    · exact hY _ _
    · exact ⟨hb0, h0b⟩
  have hin : ∀ r c, ((1 ≤ r ∧ r ≤ 224) ∧ (1 ≤ c ∧ c ≤ 224)) → tap ((-big : ℝ) : EReal) Y r c = tap 0 Y r c := fun r c h => by
    unfold tap; rw [dif_pos h, dif_pos h]
  by_cases hr : 1 ≤ ib.val * 32 + q.val / 224 ∧ ib.val * 32 + q.val / 224 ≤ 224
  · have hbig : (min (if ib.val = 0 then (if q.val < 224 then ((-big : ℝ) : EReal) else (big : EReal)) else (big : EReal))
        (if ib.val = 6 then (if 7392 ≤ q.val then ((-big : ℝ) : EReal) else (big : EReal)) else (big : EReal))) = (big : EReal) := by
      have e1 : (if ib.val = 0 then (if q.val < 224 then ((-big : ℝ) : EReal) else (big : EReal)) else (big : EReal)) = (big : EReal) := by
        split_ifs <;> first | rfl | omega
      have e2 : (if ib.val = 6 then (if 7392 ≤ q.val then ((-big : ℝ) : EReal) else (big : EReal)) else (big : EReal)) = (big : EReal) := by
        split_ifs <;> first | rfl | omega
      rw [e1, e2, min_self]
    have hl : min (if q.val < 1 then 0 else tap 0 Y (ib.val * 32 + (q.val - 1) / 224) ((q.val - 1) % 224 + 1))
        (if 0 < q.val % 224 then (big : EReal) else ((-big : ℝ) : EReal)) = tap ((-big : ℝ) : EReal) Y (ib.val * 32 + q.val / 224) (q.val % 224) := by
      by_cases g : 0 < q.val % 224
      · rw [if_pos g, if_neg (by omega), min_eq_left (ht _ _).2, hin _ _ (by omega)]
        congr 1 <;> omega
      · rw [if_neg g, tap_out ((-big : ℝ) : EReal) Y _ (q.val % 224) (by omega)]
        refine min_eq_right ?_
        split_ifs
        · exact hb0
        · exact (ht _ _).1
    have hrt : min (if q.val < 7615 then tap 0 Y (ib.val * 32 + (1 + q.val) / 224) ((1 + q.val) % 224 + 1) else 0)
        (if q.val % 224 < 223 then (big : EReal) else ((-big : ℝ) : EReal)) = tap ((-big : ℝ) : EReal) Y (ib.val * 32 + q.val / 224) (q.val % 224 + 2) := by
      by_cases g : q.val % 224 < 223
      · rw [if_pos g, if_pos (by omega), min_eq_left (ht _ _).2, hin _ _ (by omega)]
        congr 1 <;> omega
      · rw [if_neg g, tap_out ((-big : ℝ) : EReal) Y _ (q.val % 224 + 2) (by omega)]
        refine min_eq_right ?_
        split_ifs
        · exact (ht _ _).1
        · exact hb0
    rw [hbig, hl, hrt, ← hin _ (q.val % 224 + 1) (by omega)]
    refine min_eq_left ?_
    have hN : ∀ r c, tap ((-big : ℝ) : EReal) Y r c ≤ (big : EReal) := fun r c => by
      unfold tap
      split_ifs
      · exact (hY _ _).2
      · exact hb
    exact max_le (max_le (hN _ _) (hN _ _)) (hN _ _)
  · have hneg : (min (if ib.val = 0 then (if q.val < 224 then ((-big : ℝ) : EReal) else (big : EReal)) else (big : EReal))
        (if ib.val = 6 then (if 7392 ≤ q.val then ((-big : ℝ) : EReal) else (big : EReal)) else (big : EReal))) = ((-big : ℝ) : EReal) := by
      have : (ib.val = 0 ∧ q.val < 224) ∨ (ib.val = 6 ∧ 7392 ≤ q.val) := by omega
      rcases this with ⟨g, g'⟩ | ⟨g, g'⟩
      · rw [if_pos g, if_pos g', if_neg (by omega)]; exact min_eq_left hb
      · rw [if_pos g, if_pos g', if_neg (by omega)]; exact min_eq_right hb
    rw [hneg, tap_out ((-big : ℝ) : EReal) _ _ _ (fun h => hr h.1), tap_out ((-big : ℝ) : EReal) _ _ _ (fun h => hr h.1),
      tap_out ((-big : ℝ) : EReal) _ _ _ (fun h => hr h.1), max_self, max_self]
    exact min_eq_right (le_trans (ht _ _).1 (le_trans (le_max_right _ _) (le_max_left _ _)))

theorem pooled_at (hX : ∀ ch r c, ((-big : ℝ) : EReal) ≤ X ch r c ∧ X ch r c ≤ (big : EReal))
    (x7 x8 x9 x10 : S1x7616.Idx → EReal)
    (h7 : ∀ q : Fin 7616, x7 (ix2 0 q) = if 0 < q.val % 224 then (big : EReal) else ((-big : ℝ) : EReal))
    (h8 : ∀ q : Fin 7616, x8 (ix2 0 q) = if q.val % 224 < 223 then (big : EReal) else ((-big : ℝ) : EReal))
    (h9 : ∀ q : Fin 7616, x9 (ix2 0 q) = if q.val < 224 then ((-big : ℝ) : EReal) else (big : EReal))
    (h10 : ∀ q : Fin 7616, x10 (ix2 0 q) = if 7392 ≤ q.val then ((-big : ℝ) : EReal) else (big : EReal)) (ch : Fin 96) (p : Fin 7168) :
    @Eq EReal (k0_pay18 (F := Ideal) (Scalar.cmpi .eq (BitVec.ofNat 32 ib.val) 6#32) (k0_pay11 (BitVec.ofNat 32 ib.val) x11 x12 x13)
        (k0_pay13 (BitVec.ofNat 32 ib.val) x11 x12 x13) (k0_pay14 (BitVec.ofNat 32 ib.val) x11 x12 x13) (k0_pay17 (BitVec.ofNat 32 ib.val) x9) x10 x7 x8 (ix2 ch p))
      (max9 fun k => tap ⊥ (X ch) (ib.val * 32 + p.val / 224 + k.val / 3) (p.val % 224 + k.val % 3)) := by
  have e := rows_at ib X x11 x12 x13 h11 h12 h13 ch
  have el := left_at ib X x11 x12 x13 h11 h12 h13 ch
  have er := right_at ib X x11 x12 x13 h11 h12 h13 ch
  generalize k0_pay11 (F := Ideal) (BitVec.ofNat 32 ib.val) x11 x12 x13 = Y at e ⊢
  generalize k0_pay13 (F := Ideal) (BitVec.ofNat 32 ib.val) x11 x12 x13 = YL at el ⊢
  generalize k0_pay14 (F := Ideal) (BitVec.ofNat 32 ib.val) x11 x12 x13 = YR at er ⊢
  refine Eq.trans ?_ (max9_line (X ch) (fun r c => (hX ch r c).1) ⟨ib.val * 32 + p.val / 224, by omega⟩ ⟨p.val % 224, by omega⟩)
  unfold k0_pay18 k0_pay17
  pointwise
  rw [first_word, last_word]
  simp only [select_ofBool, h7, h8, h9, h10, e, el, er, ofBits_big]
  have r0 := clip_row ib (X ch) (hX ch) ⟨p.val, by omega⟩
  have r1 := clip_row ib (X ch) (hX ch) ⟨224 + p.val, by omega⟩
  have r2 := clip_row ib (X ch) (hX ch) ⟨448 + p.val, by omega⟩
  dsimp only at r0 r1 r2
  rw [r0, r1, r2]
  unfold max9
  have e1 : (224 + p.val) / 224 = p.val / 224 + 1 := by omega
  have e2 : (448 + p.val) / 224 = p.val / 224 + 2 := by omega
  have e3 : (224 + p.val) % 224 = p.val % 224 := by omega
  have e4 : (448 + p.val) % 224 = p.val % 224 := by omega
  rw [e1, e2, e3, e4]
  rfl

end Rows

/-! ## The product -/

section Product

/-- Nine pieces of 96 one after the other, read at a position. -/
theorem ladder (f : Fin 9 → Fin 96 → EReal) (x : Fin 864) :
    (if h : x.val < 96 then f 0 ⟨x.val, h⟩ else if h : x.val - 96 < 96 then f 1 ⟨x.val - 96, h⟩ else if h : x.val - 96 - 96 < 96 then f 2 ⟨x.val - 96 - 96, h⟩ else if h : x.val - 96 - 96 - 96 < 96 then f 3 ⟨x.val - 96 - 96 - 96, h⟩ else if h : x.val - 96 - 96 - 96 - 96 < 96 then f 4 ⟨x.val - 96 - 96 - 96 - 96, h⟩ else if h : x.val - 96 - 96 - 96 - 96 - 96 < 96 then f 5 ⟨x.val - 96 - 96 - 96 - 96 - 96, h⟩ else if h : x.val - 96 - 96 - 96 - 96 - 96 - 96 < 96 then f 6 ⟨x.val - 96 - 96 - 96 - 96 - 96 - 96, h⟩ else if h : x.val - 96 - 96 - 96 - 96 - 96 - 96 - 96 < 96 then f 7 ⟨x.val - 96 - 96 - 96 - 96 - 96 - 96 - 96, h⟩ else f 8 ⟨x.val - 96 - 96 - 96 - 96 - 96 - 96 - 96 - 96, by omega⟩)
      = f (Fin.divNat (m := 9) (n := 96) x) (Fin.modNat (m := 9) (n := 96) x) := by
  have key : ∀ (k : Fin 9) (c : Fin 96), x.val = k.val * 96 + c.val → f k c = f (Fin.divNat (m := 9) (n := 96) x) (Fin.modNat (m := 9) (n := 96) x) := by
    intro k c h
    have e1 : Fin.divNat (m := 9) (n := 96) x = k := Fin.ext (by show x.val / 96 = k.val; omega)
    have e2 : Fin.modNat (m := 9) (n := 96) x = c := Fin.ext (by show x.val % 96 = c.val; omega)
    rw [e1, e2]
  split_ifs
  · exact key 0 _ (by show x.val = 0 * 96 + (x.val); omega)
  · exact key 1 _ (by show x.val = 1 * 96 + (x.val - 96); omega)
  · exact key 2 _ (by show x.val = 2 * 96 + (x.val - 96 - 96); omega)
  · exact key 3 _ (by show x.val = 3 * 96 + (x.val - 96 - 96 - 96); omega)
  · exact key 4 _ (by show x.val = 4 * 96 + (x.val - 96 - 96 - 96 - 96); omega)
  · exact key 5 _ (by show x.val = 5 * 96 + (x.val - 96 - 96 - 96 - 96 - 96); omega)
  · exact key 6 _ (by show x.val = 6 * 96 + (x.val - 96 - 96 - 96 - 96 - 96 - 96); omega)
  · exact key 7 _ (by show x.val = 7 * 96 + (x.val - 96 - 96 - 96 - 96 - 96 - 96 - 96); omega)
  · exact key 8 _ (by show x.val = 8 * 96 + (x.val - 96 - 96 - 96 - 96 - 96 - 96 - 96 - 96); omega)

/-- A sum over 864 positions as nine sums of 96. -/
theorem sum_pieces (f g : Fin 9 → Fin 96 → EReal) :
    (∑ x : Fin 864, f (Fin.divNat (m := 9) (n := 96) x) (Fin.modNat (m := 9) (n := 96) x) * g (Fin.divNat (m := 9) (n := 96) x) (Fin.modNat (m := 9) (n := 96) x))
      = ∑ k, ∑ ch, f k ch * g k ch := by
  rw [← Fintype.sum_prod_type' (f := fun k ch => f k ch * g k ch)]
  exact Fintype.sum_equiv (finProdFinEquiv (m := 9) (n := 96)).symm _ (fun q : Fin 9 × Fin 96 => f q.1 q.2 * g q.1 q.2) fun x => rfl

theorem product_at (w : EReal) (vm : S96x7168.Idx → EReal) (m0 m1 m2 m3 m4 m5 m6 m7 m8 : S96x96.Idx → EReal) (y0 y1 y2 y3 y4 y5 y6 y7 y8 : S96x7168.Idx → EReal)
    (o : Fin 96) (p : Fin 7168) (M T : Fin 9 → Fin 96 → EReal)
    (hm0 : ∀ ch : Fin 96, m0 (ix2 o ch) = M 0 ch) (hy0 : ∀ ch : Fin 96, y0 (ix2 ch p) = T 0 ch)
    (hm1 : ∀ ch : Fin 96, m1 (ix2 o ch) = M 1 ch) (hy1 : ∀ ch : Fin 96, y1 (ix2 ch p) = T 1 ch)
    (hm2 : ∀ ch : Fin 96, m2 (ix2 o ch) = M 2 ch) (hy2 : ∀ ch : Fin 96, y2 (ix2 ch p) = T 2 ch)
    (hm3 : ∀ ch : Fin 96, m3 (ix2 o ch) = M 3 ch) (hy3 : ∀ ch : Fin 96, y3 (ix2 ch p) = T 3 ch)
    (hm4 : ∀ ch : Fin 96, m4 (ix2 o ch) = M 4 ch) (hy4 : ∀ ch : Fin 96, y4 (ix2 ch p) = T 4 ch)
    (hm5 : ∀ ch : Fin 96, m5 (ix2 o ch) = M 5 ch) (hy5 : ∀ ch : Fin 96, y5 (ix2 ch p) = T 5 ch)
    (hm6 : ∀ ch : Fin 96, m6 (ix2 o ch) = M 6 ch) (hy6 : ∀ ch : Fin 96, y6 (ix2 ch p) = T 6 ch)
    (hm7 : ∀ ch : Fin 96, m7 (ix2 o ch) = M 7 ch) (hy7 : ∀ ch : Fin 96, y7 (ix2 ch p) = T 7 ch)
    (hm8 : ∀ ch : Fin 96, m8 (ix2 o ch) = M 8 ch) (hy8 : ∀ ch : Fin 96, y8 (ix2 ch p) = T 8 ch) :
    @Eq EReal (k0_pay1 (F := Ideal) w vm m0 m1 m2 m3 m4 m5 m6 m7 m8
        (concatenate S864x7168 0 [⟨S96x7168, y0⟩, ⟨S96x7168, y1⟩, ⟨S96x7168, y2⟩, ⟨S96x7168, y3⟩, ⟨S96x7168, y4⟩, ⟨S96x7168, y5⟩, ⟨S96x7168, y6⟩, ⟨S96x7168, y7⟩, ⟨S96x7168, y8⟩]
          concatenates_S96x7168_S96x7168_S96x7168_S96x7168_S96x7168_S96x7168_S96x7168_S96x7168_S96x7168_S864x7168_d0) (ix3 0 o p))
      ((∑ k, ∑ ch, M k ch * T k ch) + w * vm (ix2 o p)) := by
  unfold k0_pay1
  pointwise
  simp only [hm0, hy0, hm1, hy1, hm2, hy2, hm3, hy3, hm4, hy4, hm5, hy5, hm6, hy6, hm7, hy7, hm8, hy8]
  refine congrArg (fun s => s + w * vm (ix2 o p)) (Eq.trans (Finset.sum_congr rfl fun x _ => ?_) (sum_pieces M T))
  exact congrArg₂ (fun a b : EReal => a * b) (ladder M x) (ladder T x)

end Product

end Cert.Block

end
-- ==== Proof.Hand.Out.lean ====
/- The block's result at an index: the matrices times the taps, plus the weighted maximum, are the branches added with their weights. -/
module

public import proofs.«01_k».proof.Proof.Hand.Block
public import Idealize.ShloMosaic.Lib.Pipeline.ValueKit.Basic

@[expose] public section

set_option maxRecDepth 16384

noncomputable section

namespace Cert.Out

open Cert.KernelIdeal Cert.KernelIdeal.Gen Idealize.ShloMosaic Idealize.ShloMosaic.TcCoe Idealize.SL.Sem Cert.Consts Cert.Weights Cert.Spec Cert.Block

theorem tap_real (X : Fin 224 → Fin 224 → EReal) (hX : ∀ r c, ((-big : ℝ) : EReal) ≤ X r c ∧ X r c ≤ (big : EReal)) (r c : ℕ) : ∃ v : ℝ, tap 0 X r c = v := by
  unfold tap
  split_ifs with h
  · refine ⟨_, (EReal.coe_toReal (fun q => ?_) (fun q => ?_)).symm⟩
    · exact absurd (hX _ _).2 (by rw [q]; simp)
    · exact absurd (hX _ _).1 (by rw [q]; simp)
  · exact ⟨0, rfl⟩

theorem max9_real (X : Fin 224 → Fin 224 → EReal) (hX : ∀ r c, ((-big : ℝ) : EReal) ≤ X r c ∧ X r c ≤ (big : EReal)) (h w : Fin 224) :
    ∃ v : ℝ, max9 (fun k => tap ⊥ X (h.val + k.val / 3) (w.val + k.val % 3)) = v := by
  have h1 : max9 (fun k => tap ⊥ X (h.val + k.val / 3) (w.val + k.val % 3)) ≤ (big : EReal) := max9_le _ _ fun k => by
    show tap ⊥ X _ _ ≤ _
    unfold tap
    split_ifs
    · exact (hX _ _).2
    · exact bot_le
  have h2 : ((-big : ℝ) : EReal) ≤ max9 (fun k => tap ⊥ X (h.val + k.val / 3) (w.val + k.val % 3)) := by
    refine le_trans ?_ (le_max9 _ 4)
    show _ ≤ tap ⊥ X (h.val + 1) (w.val + 1)
    rw [tap_in]
    exact (hX h w).1
  refine ⟨_, (EReal.coe_toReal (fun q => ?_) (fun q => ?_)).symm⟩
  · exact absurd h1 (by rw [q]; simp)
  · exact absurd h2 (by rw [q]; simp)

theorem view0 (X : Fin 224 → Fin 224 → EReal) (ib : Fin 7) (Y : S96x7616.Idx → EReal) (ch : Fin 96)
    (hY : ∀ q : Fin 7616, Y (ix2 ch q) = tap 0 X (ib.val * 32 + q.val / 224) (q.val % 224 + 0)) (p : Fin 7168) :
    @Eq EReal (k0_pay24 (F := Ideal) Y (ix2 ch p)) (tap 0 X (ib.val * 32 + p.val / 224 + ((0 : Fin 9).val / 3)) (p.val % 224 + ((0 : Fin 9).val % 3))) := by
  have e : @Eq EReal (k0_pay24 (F := Ideal) Y (ix2 ch p)) (Y (ix2 ch ⟨p.val, by omega⟩)) := by
    unfold k0_pay24
    pointwise
  refine e.trans ((hY _).trans ?_)
  show tap 0 X (ib.val * 32 + (p.val) / 224) ((p.val) % 224 + 0) = tap 0 X (ib.val * 32 + p.val / 224 + 0) (p.val % 224 + 0)
  rw [show (p.val) / 224 = p.val / 224 + 0 from by omega, show (p.val) % 224 = p.val % 224 from by omega, add_assoc (ib.val * 32)]

theorem view1 (X : Fin 224 → Fin 224 → EReal) (ib : Fin 7) (Y : S96x7616.Idx → EReal) (ch : Fin 96)
    (hY : ∀ q : Fin 7616, Y (ix2 ch q) = tap 0 X (ib.val * 32 + q.val / 224) (q.val % 224 + 1)) (p : Fin 7168) :
    @Eq EReal (k0_pay26 (F := Ideal) Y (ix2 ch p)) (tap 0 X (ib.val * 32 + p.val / 224 + ((1 : Fin 9).val / 3)) (p.val % 224 + ((1 : Fin 9).val % 3))) := by
  have e : @Eq EReal (k0_pay26 (F := Ideal) Y (ix2 ch p)) (Y (ix2 ch ⟨p.val, by omega⟩)) := by
    unfold k0_pay26
    pointwise
  refine e.trans ((hY _).trans ?_)
  show tap 0 X (ib.val * 32 + (p.val) / 224) ((p.val) % 224 + 1) = tap 0 X (ib.val * 32 + p.val / 224 + 0) (p.val % 224 + 1)
  rw [show (p.val) / 224 = p.val / 224 + 0 from by omega, show (p.val) % 224 = p.val % 224 from by omega, add_assoc (ib.val * 32)]

theorem view2 (X : Fin 224 → Fin 224 → EReal) (ib : Fin 7) (Y : S96x7616.Idx → EReal) (ch : Fin 96)
    (hY : ∀ q : Fin 7616, Y (ix2 ch q) = tap 0 X (ib.val * 32 + q.val / 224) (q.val % 224 + 2)) (p : Fin 7168) :
    @Eq EReal (k0_pay28 (F := Ideal) Y (ix2 ch p)) (tap 0 X (ib.val * 32 + p.val / 224 + ((2 : Fin 9).val / 3)) (p.val % 224 + ((2 : Fin 9).val % 3))) := by
  have e : @Eq EReal (k0_pay28 (F := Ideal) Y (ix2 ch p)) (Y (ix2 ch ⟨p.val, by omega⟩)) := by
    unfold k0_pay28
    pointwise
  refine e.trans ((hY _).trans ?_)
  show tap 0 X (ib.val * 32 + (p.val) / 224) ((p.val) % 224 + 2) = tap 0 X (ib.val * 32 + p.val / 224 + 0) (p.val % 224 + 2)
  rw [show (p.val) / 224 = p.val / 224 + 0 from by omega, show (p.val) % 224 = p.val % 224 from by omega, add_assoc (ib.val * 32)]

theorem view3 (X : Fin 224 → Fin 224 → EReal) (ib : Fin 7) (Y : S96x7616.Idx → EReal) (ch : Fin 96)
    (hY : ∀ q : Fin 7616, Y (ix2 ch q) = tap 0 X (ib.val * 32 + q.val / 224) (q.val % 224 + 0)) (p : Fin 7168) :
    @Eq EReal (k0_pay30 (F := Ideal) Y (ix2 ch p)) (tap 0 X (ib.val * 32 + p.val / 224 + ((3 : Fin 9).val / 3)) (p.val % 224 + ((3 : Fin 9).val % 3))) := by
  have e : @Eq EReal (k0_pay30 (F := Ideal) Y (ix2 ch p)) (Y (ix2 ch ⟨224 + p.val, by omega⟩)) := by
    unfold k0_pay30
    pointwise
  refine e.trans ((hY _).trans ?_)
  show tap 0 X (ib.val * 32 + (224 + p.val) / 224) ((224 + p.val) % 224 + 0) = tap 0 X (ib.val * 32 + p.val / 224 + 1) (p.val % 224 + 0)
  rw [show (224 + p.val) / 224 = p.val / 224 + 1 from by omega, show (224 + p.val) % 224 = p.val % 224 from by omega, add_assoc (ib.val * 32)]

theorem view4 (X : Fin 224 → Fin 224 → EReal) (ib : Fin 7) (Y : S96x7616.Idx → EReal) (ch : Fin 96)
    (hY : ∀ q : Fin 7616, Y (ix2 ch q) = tap 0 X (ib.val * 32 + q.val / 224) (q.val % 224 + 1)) (p : Fin 7168) :
    @Eq EReal (k0_pay32 (F := Ideal) Y (ix2 ch p)) (tap 0 X (ib.val * 32 + p.val / 224 + ((4 : Fin 9).val / 3)) (p.val % 224 + ((4 : Fin 9).val % 3))) := by
  have e : @Eq EReal (k0_pay32 (F := Ideal) Y (ix2 ch p)) (Y (ix2 ch ⟨224 + p.val, by omega⟩)) := by
    unfold k0_pay32
    pointwise
  refine e.trans ((hY _).trans ?_)
  show tap 0 X (ib.val * 32 + (224 + p.val) / 224) ((224 + p.val) % 224 + 1) = tap 0 X (ib.val * 32 + p.val / 224 + 1) (p.val % 224 + 1)
  rw [show (224 + p.val) / 224 = p.val / 224 + 1 from by omega, show (224 + p.val) % 224 = p.val % 224 from by omega, add_assoc (ib.val * 32)]

theorem view5 (X : Fin 224 → Fin 224 → EReal) (ib : Fin 7) (Y : S96x7616.Idx → EReal) (ch : Fin 96)
    (hY : ∀ q : Fin 7616, Y (ix2 ch q) = tap 0 X (ib.val * 32 + q.val / 224) (q.val % 224 + 2)) (p : Fin 7168) :
    @Eq EReal (k0_pay34 (F := Ideal) Y (ix2 ch p)) (tap 0 X (ib.val * 32 + p.val / 224 + ((5 : Fin 9).val / 3)) (p.val % 224 + ((5 : Fin 9).val % 3))) := by
  have e : @Eq EReal (k0_pay34 (F := Ideal) Y (ix2 ch p)) (Y (ix2 ch ⟨224 + p.val, by omega⟩)) := by
    unfold k0_pay34
    pointwise
  refine e.trans ((hY _).trans ?_)
  show tap 0 X (ib.val * 32 + (224 + p.val) / 224) ((224 + p.val) % 224 + 2) = tap 0 X (ib.val * 32 + p.val / 224 + 1) (p.val % 224 + 2)
  rw [show (224 + p.val) / 224 = p.val / 224 + 1 from by omega, show (224 + p.val) % 224 = p.val % 224 from by omega, add_assoc (ib.val * 32)]

theorem view6 (X : Fin 224 → Fin 224 → EReal) (ib : Fin 7) (Y : S96x7616.Idx → EReal) (ch : Fin 96)
    (hY : ∀ q : Fin 7616, Y (ix2 ch q) = tap 0 X (ib.val * 32 + q.val / 224) (q.val % 224 + 0)) (p : Fin 7168) :
    @Eq EReal (k0_pay36 (F := Ideal) Y (ix2 ch p)) (tap 0 X (ib.val * 32 + p.val / 224 + ((6 : Fin 9).val / 3)) (p.val % 224 + ((6 : Fin 9).val % 3))) := by
  have e : @Eq EReal (k0_pay36 (F := Ideal) Y (ix2 ch p)) (Y (ix2 ch ⟨448 + p.val, by omega⟩)) := by
    unfold k0_pay36
    pointwise
  refine e.trans ((hY _).trans ?_)
  show tap 0 X (ib.val * 32 + (448 + p.val) / 224) ((448 + p.val) % 224 + 0) = tap 0 X (ib.val * 32 + p.val / 224 + 2) (p.val % 224 + 0)
  rw [show (448 + p.val) / 224 = p.val / 224 + 2 from by omega, show (448 + p.val) % 224 = p.val % 224 from by omega, add_assoc (ib.val * 32)]

theorem view7 (X : Fin 224 → Fin 224 → EReal) (ib : Fin 7) (Y : S96x7616.Idx → EReal) (ch : Fin 96)
    (hY : ∀ q : Fin 7616, Y (ix2 ch q) = tap 0 X (ib.val * 32 + q.val / 224) (q.val % 224 + 1)) (p : Fin 7168) :
    @Eq EReal (k0_pay38 (F := Ideal) Y (ix2 ch p)) (tap 0 X (ib.val * 32 + p.val / 224 + ((7 : Fin 9).val / 3)) (p.val % 224 + ((7 : Fin 9).val % 3))) := by
  have e : @Eq EReal (k0_pay38 (F := Ideal) Y (ix2 ch p)) (Y (ix2 ch ⟨448 + p.val, by omega⟩)) := by
    unfold k0_pay38
    pointwise
  refine e.trans ((hY _).trans ?_)
  show tap 0 X (ib.val * 32 + (448 + p.val) / 224) ((448 + p.val) % 224 + 1) = tap 0 X (ib.val * 32 + p.val / 224 + 2) (p.val % 224 + 1)
  rw [show (448 + p.val) / 224 = p.val / 224 + 2 from by omega, show (448 + p.val) % 224 = p.val % 224 from by omega, add_assoc (ib.val * 32)]

theorem view8 (X : Fin 224 → Fin 224 → EReal) (ib : Fin 7) (Y : S96x7616.Idx → EReal) (ch : Fin 96)
    (hY : ∀ q : Fin 7616, Y (ix2 ch q) = tap 0 X (ib.val * 32 + q.val / 224) (q.val % 224 + 2)) (p : Fin 7168) :
    @Eq EReal (k0_pay40 (F := Ideal) Y (ix2 ch p)) (tap 0 X (ib.val * 32 + p.val / 224 + ((8 : Fin 9).val / 3)) (p.val % 224 + ((8 : Fin 9).val % 3))) := by
  have e : @Eq EReal (k0_pay40 (F := Ideal) Y (ix2 ch p)) (Y (ix2 ch ⟨448 + p.val, by omega⟩)) := by
    unfold k0_pay40
    pointwise
  refine e.trans ((hY _).trans ?_)
  show tap 0 X (ib.val * 32 + (448 + p.val) / 224) ((448 + p.val) % 224 + 2) = tap 0 X (ib.val * 32 + p.val / 224 + 2) (p.val % 224 + 2)
  rw [show (448 + p.val) / 224 = p.val / 224 + 2 from by omega, show (448 + p.val) % 224 = p.val % 224 from by omega, add_assoc (ib.val * 32)]

theorem canon2 (w : Vec Ideal S1x96x7168 .f32) (L : List (View.Piece (Elt Ideal) S1x96x7168 .f32)) : View.canon (⟨r0_2, w⟩ :: L) = w := View.canon_cons_unit_lit _ w L (by decide)
theorem ld0 {e : EltTy} (x : Vec Ideal S1x8 e) : View.ld x r0_0 = x := View.ld_unit_lit _ x (by decide)
theorem ld1 {e : EltTy} (x : Vec Ideal S8x1 e) : View.ld x r0_1 = x := View.ld_unit_lit _ x (by decide)
theorem ld2 {e : EltTy} (x : Vec Ideal S1x96x7168 e) : View.ld x r0_2 = x := View.ld_unit_lit _ x (by decide)
theorem ld3 {e : EltTy} (x : Vec Ideal S1x1x96x224 e) : View.ld x r0_3 = x := View.ld_unit_lit _ x (by decide)
theorem ld4 {e : EltTy} (x : Vec Ideal S1x7616 e) : View.ld x r0_4 = x := View.ld_unit_lit _ x (by decide)
theorem ld5 {e : EltTy} (x : Vec Ideal S96x9 e) : View.ld x r0_5 = x := View.ld_unit_lit _ x (by decide)
theorem ld6 {e : EltTy} (x : Vec Ideal S96x96 e) : View.ld x r0_6 = x := View.ld_unit_lit _ x (by decide)

/-- The block's result, given what its inputs hold. -/
theorem block_at (i : grid0.Coords) (ib : Fin 7) (hib : (i 1).val = ib.val)
    (x0 : Vec Ideal S1x8 .f32)
    (x1 : Vec Ideal S8x1 .f32)
    (x2 : Vec Ideal S96x96 .f32)
    (x3 : Vec Ideal S96x96 .f32)
    (x4 : Vec Ideal S96x9 .f32)
    (x5 : Vec Ideal S1x7616 .bf16)
    (x6 : Vec Ideal S1x7616 .bf16)
    (x7 : Vec Ideal S1x7616 .bf16)
    (x8 : Vec Ideal S1x7616 .bf16)
    (x9 : Vec Ideal S1x7616 .bf16)
    (x10 : Vec Ideal S1x7616 .bf16)
    (x11 : Vec Ideal S1x96x7168 .f32)
    (x12 : Vec Ideal S1x1x96x224 .f32)
    (x13 : Vec Ideal S1x1x96x224 .f32)
    (a : Fin 6 → EReal) (l : Fin 8 → EReal) (hl : ∀ j : Fin 8, l j = if h : j.val < 6 then a ⟨j.val, h⟩ else ⊥)
    (X : Fin 96 → Fin 224 → Fin 224 → EReal) (hX : ∀ ch r c, ((-big : ℝ) : EReal) ≤ X ch r c ∧ X ch r c ≤ (big : EReal))
    (D : Fin 96 → Fin 9 → EReal) (P W : Fin 96 → Fin 96 → EReal) (hD : ∀ ch k, ∃ r : ℝ, D ch k = r) (hP : ∀ o ch, ∃ r : ℝ, P o ch = r)
    (h0 : ∀ j : Fin 8, x0 (ix2 0 j) = l j) (h1 : ∀ j : Fin 8, x1 (ix2 j 0) = l j)
    (h2 : ∀ o ch : Fin 96, x2 (ix2 o ch) = W o ch) (h3 : ∀ o ch : Fin 96, x3 (ix2 o ch) = P o ch) (h4 : ∀ (ch : Fin 96) (k : Fin 9), x4 (ix2 ch k) = D ch k)
    (h5 : ∀ q : Fin 7616, @Eq EReal (x5 (ix2 0 q)) (if 0 < q.val % 224 then 1 else 0))
    (h6 : ∀ q : Fin 7616, @Eq EReal (x6 (ix2 0 q)) (if q.val % 224 < 223 then 1 else 0))
    (h7 : ∀ q : Fin 7616, x7 (ix2 0 q) = if 0 < q.val % 224 then (big : EReal) else ((-big : ℝ) : EReal))
    (h8 : ∀ q : Fin 7616, x8 (ix2 0 q) = if q.val % 224 < 223 then (big : EReal) else ((-big : ℝ) : EReal))
    (h9 : ∀ q : Fin 7616, x9 (ix2 0 q) = if q.val < 224 then ((-big : ℝ) : EReal) else (big : EReal))
    (h10 : ∀ q : Fin 7616, x10 (ix2 0 q) = if 7392 ≤ q.val then ((-big : ℝ) : EReal) else (big : EReal))
    (h11 : ∀ (ch : Fin 96) (p : Fin 7168), x11 (ix3 0 ch p) = X ch (rowIn ib p) (colIn p))
    (h12 : ∀ (ch : Fin 96) (w : Fin 224), x12 (ix4 0 0 ch w) = X ch (rowAbove ib) w)
    (h13 : ∀ (ch : Fin 96) (w : Fin 224), x13 (ix4 0 0 ch w) = X ch (rowBelow ib) w) (o : Fin 96) (p : Fin 7168) :
    @Eq EReal (out0_14 (F := Ideal) i x0 x1 x2 x3 x4 x5 x6 x7 x8 x9 x10 x11 x12 x13 (ix3 0 o p))
      (branches a (fun k ch => tap 0 (X ch) (ib.val * 32 + p.val / 224 + k.val / 3) (p.val % 224 + k.val % 3))
        (max9 fun k => tap ⊥ (X o) (ib.val * 32 + p.val / 224 + k.val / 3) (p.val % 224 + k.val % 3)) D (P o) (W o) o) := by
  unfold_out out0_14
  refine (congrFun (canon2 _ _) _).trans ?_
  rw [ld2 x11, ld3 x12, ld3 x13, ld4 x5, ld4 x6, hib]
  simp only [ld0, ld1, ld4, ld5, ld6, pay5_at a l hl x0 x1 h0 h1, pay6_at a l hl x0 x1 h0 h1, pay7_at a l hl x0 x1 h0 h1,
    pay8_at a l hl x0 x1 h0 h1, pay10_at a l hl x0 x1 h0 h1]
  have yl := left_masked ib X x11 x12 x13 h11 h12 h13 x5 h5
  have yc := rows_at ib X x11 x12 x13 h11 h12 h13
  have yr := right_masked ib X x11 x12 x13 h11 h12 h13 x6 h6
  have vm := pooled_at ib X x11 x12 x13 h11 h12 h13 hX x7 x8 x9 x10 h7 h8 h9 h10 o p
  have e0 := fun ch => pay23_at a x3 x4 o ch D P W h3 h4
  have e1 := fun ch => pay25_at a x3 x4 o ch D P W h3 h4
  have e2 := fun ch => pay27_at a x3 x4 o ch D P W h3 h4
  have e3 := fun ch => pay29_at a x3 x4 o ch D P W h3 h4
  have e4 := fun ch => pay31_at a x2 x3 x4 o ch D P W h2 h3 h4
  have e5 := fun ch => pay33_at a x3 x4 o ch D P W h3 h4
  have e6 := fun ch => pay35_at a x3 x4 o ch D P W h3 h4
  have e7 := fun ch => pay37_at a x3 x4 o ch D P W h3 h4
  have e8 := fun ch => pay39_at a x3 x4 o ch D P W h3 h4
  generalize k0_pay18 (F := Ideal) _ _ _ _ _ _ _ _ = V at vm ⊢
  generalize k0_pay23 (F := Ideal) _ _ _ _ = m0 at e0 ⊢
  generalize k0_pay25 (F := Ideal) _ _ _ _ = m1 at e1 ⊢
  generalize k0_pay27 (F := Ideal) _ _ _ = m2 at e2 ⊢
  generalize k0_pay29 (F := Ideal) _ _ _ = m3 at e3 ⊢
  generalize k0_pay31 (F := Ideal) _ _ _ _ _ _ _ = m4 at e4 ⊢
  generalize k0_pay33 (F := Ideal) _ _ _ = m5 at e5 ⊢
  generalize k0_pay35 (F := Ideal) _ _ _ = m6 at e6 ⊢
  generalize k0_pay37 (F := Ideal) _ _ _ = m7 at e7 ⊢
  generalize k0_pay39 (F := Ideal) _ _ _ = m8 at e8 ⊢
  generalize k0_pay15 (F := Ideal) _ _ _ _ _ = L at yl ⊢
  generalize k0_pay11 (F := Ideal) _ _ _ _ = C at yc ⊢
  generalize k0_pay16 (F := Ideal) _ _ _ _ _ = R at yr ⊢
  refine Eq.trans (product_at (wn a 3) V m0 m1 m2 m3 m4 m5 m6 m7 m8 _ _ _ _ _ _ _ _ _ o p (mat a D (P o) (W o) o)
    (fun k ch => tap 0 (X ch) (ib.val * 32 + p.val / 224 + k.val / 3) (p.val % 224 + k.val % 3))
    e0 (fun ch => view0 (X ch) ib L ch (yl ch) p)
    e1 (fun ch => view1 (X ch) ib C ch (yc ch) p)
    e2 (fun ch => view2 (X ch) ib R ch (yr ch) p)
    e3 (fun ch => view3 (X ch) ib L ch (yl ch) p)
    e4 (fun ch => view4 (X ch) ib C ch (yc ch) p)
    e5 (fun ch => view5 (X ch) ib R ch (yr ch) p)
    e6 (fun ch => view6 (X ch) ib L ch (yl ch) p)
    e7 (fun ch => view7 (X ch) ib C ch (yc ch) p)
    e8 (fun ch => view8 (X ch) ib R ch (yr ch) p)) ?_
  rw [vm]
  exact folded a _ _ D (P o) (W o) o (fun k ch => tap_real _ (hX ch) _ _)
    (max9_real (X o) (hX o) ⟨ib.val * 32 + p.val / 224, by omega⟩ ⟨p.val % 224, by omega⟩) hD (hP o)

end Cert.Out

end
-- ==== Proof.Hand.Tables.lean ====
/- What the kernel's input arrays hold when its grid starts, each at an index: the arrays that the host operations before
   it make of the arguments. The activations reordered to rows of 224 columns; the rows just above and just below each
   block of 32 rows; the logits with two entries of -infinity behind them; the weight matrices; and six tables that
   depend on the column alone. -/
module

public import proofs.«01_k».proof.Proof.Gen.KernelIdeal.Value
public import proofs.«01_k».proof.Proof.Hand.Consts
public import Idealize.ShloMosaic.Lib.StableHlo.ReadAt
public import Idealize.ShloMosaic.Lib.Pointwise

@[expose] public section

set_option maxRecDepth 16384

noncomputable section

namespace Cert.Tables

open Cert.KernelIdeal Cert.KernelIdeal.Gen Idealize.ShloMosaic Idealize.ShloMosaic.TcCoe Idealize.SL.Sem Cert.Consts

variable (m : (ℓ : Loc nD τ sig) → Buf (Elt Ideal) ℓ) (c : Dev nD)

/-- The five arguments, as launched. -/
abbrev argX : S2x96x224x224.Idx → EReal := m (c, Proc.tc.devRef main_arg0)
abbrev argA : S6.Idx → EReal := m (c, Proc.tc.devRef main_arg1)
abbrev argD : S96x1x3x3.Idx → EReal := m (c, Proc.tc.devRef main_arg2)
abbrev argP : S96x96x1x1.Idx → EReal := m (c, Proc.tc.devRef main_arg3)
abbrev argW : S96x96x1x1.Idx → EReal := m (c, Proc.tc.devRef main_arg4)

/-- The gather of whole rows: result row `i` is the operand's row that the `i`-th start index names. -/
theorem gather_rows (x : S2x96x224x224.Idx → EReal) (idx : IVec S7x1 32) (b : Fin 2) (ch : Fin 96) (i : Fin 7) (w : Fin 224) :
    Host.gather gather_S2x96x224x224_S7x1_S2x96x7x224_013_2_n_n_2_1_2961224 x idx (ix4 b ch i w)
      = x (ix4 b ch ⟨min (idx (ix2 i 0)).toInt.toNat 223, by omega⟩ w) := by
  unfold Host.gather
  congr 1
  have hsi : ∀ n, GatherDims.siIdx gather_S2x96x224x224_S7x1_S2x96x7x224_013_2_n_n_2_1_2961224 (ix4 b ch i w) n = ix2 i 0 := by
    intro n
    funext a
    refine Fin.ext ?_
    match a with
    | ⟨0, _⟩ => rfl
    | ⟨1, _⟩ => exact Nat.lt_one_iff.mp n.isLt
  funext a
  refine Fin.ext ?_
  show GatherDims.start gather_S2x96x224x224_S7x1_S2x96x7x224_013_2_n_n_2_1_2961224 (ix4 b ch i w) idx a
    + GatherDims.batchCoord gather_S2x96x224x224_S7x1_S2x96x7x224_013_2_n_n_2_1_2961224 (ix4 b ch i w) a
    + GatherDims.offCoord gather_S2x96x224x224_S7x1_S2x96x7x224_013_2_n_n_2_1_2961224 (ix4 b ch i w) a = _
  rw [GatherDims.batchCoord_eq_zero _ _ _ List.not_mem_nil]
  unfold GatherDims.start
  have ha : a = 0 ∨ a = 1 ∨ a = 2 ∨ a = 3 := by revert a; decide
  rcases ha with rfl | rfl | rfl | rfl
  · rw [dif_neg (by decide)]; exact Nat.zero_add _
  · rw [dif_neg (by decide)]; exact Nat.zero_add _
  · rw [dif_pos (by decide), hsi, GatherDims.offCoord_eq_zero _ _ _ (by decide)]
    rfl
  · rw [dif_neg (by decide)]; exact Nat.zero_add _

theorem v0_at (b : Fin 2) (ch : Fin 96) (q : Fin 50176) :
    @Eq EReal (V m c main_v0 (ix3 b ch q)) (argX m c (ix4 b ch ⟨q.val / 224, by omega⟩ ⟨q.val % 224, by omega⟩)) := by
  unfold V
  after_reads_at

theorem rowMajor7 (i : Fin 7) : S7.rowMajor (ix1 i) = (i : Fin 7) := by
  have h : ∀ i : Fin 7, (S7.rowMajor (ix1 i)).val = i.val := by decide
  exact Fin.ext (h i)

/-- The start indices of the rows above: `32 i - 1`, and row 0 above the first block. -/
theorem top_word : ∀ i : Fin 7, min (Scalar.select (IntOp.cmpi .slt (lit0 i) 0#32) (IntOp.addi (lit0 i) 224#32) (lit0 i)).toInt.toNat 223
    = i.val * 32 - 1 := by decide

/-- The start indices of the rows below: `32 i + 32`, and row 223 below the last block. -/
theorem bot_word : ∀ i : Fin 7, min (Scalar.select (IntOp.cmpi .slt (lit1 i) 0#32) (IntOp.addi (lit1 i) 224#32) (lit1 i)).toInt.toNat 223
    = min (i.val * 32 + 32) 223 := by decide

theorem v8_at (b : Fin 2) (i : Fin 7) (ch : Fin 96) (w : Fin 224) :
    @Eq EReal (V m c main_v8 (ix4 b i ch w)) (argX m c (ix4 b ch ⟨i.val * 32 - 1, by omega⟩ w)) := by
  unfold V
  after_reads_at
  refine (gather_rows _ _ _ _ _ _).trans ?_
  refine congrArg (fun r : Fin 224 => argX m c (ix4 b ch r w)) (Fin.ext ?_)
  refine Eq.trans ?_ (top_word i)
  pointwise
  rw [rowMajor7]

theorem v16_at (b : Fin 2) (i : Fin 7) (ch : Fin 96) (w : Fin 224) :
    @Eq EReal (V m c main_v16 (ix4 b i ch w)) (argX m c (ix4 b ch ⟨min (i.val * 32 + 32) 223, by omega⟩ w)) := by
  unfold V
  after_reads_at
  refine (gather_rows _ _ _ _ _ _).trans ?_
  refine congrArg (fun r : Fin 224 => argX m c (ix4 b ch r w)) (Fin.ext ?_)
  refine Eq.trans ?_ (bot_word i)
  pointwise
  rw [rowMajor7]

/-- Entry `j` of the eight logits: the arguments, then two of -infinity. -/
abbrev logit (j : Fin 8) : EReal := if h : j.val < 6 then argA m c (ix1 ⟨j.val, h⟩) else ⊥

theorem v19_at (j : Fin 8) : @Eq EReal (V m c main_v19 (ix2 0 j)) (logit m c j) := by
  unfold V
  after_reads_simp
  clean_types
  pointwise
  after_reads_simp
  pointwise
  rw [ofBits_bot]

theorem v20_at (j : Fin 8) : @Eq EReal (V m c main_v20 (ix2 j 0)) (logit m c j) := by
  unfold V
  after_reads_simp
  clean_types
  pointwise
  after_reads_simp
  pointwise
  rw [ofBits_bot]

theorem v21_at (o ch : Fin 96) : @Eq EReal (V m c main_v21 (ix2 o ch)) (argW m c (ix4 o ch 0 0)) := by
  unfold V
  after_reads_at

theorem v22_at (o ch : Fin 96) : @Eq EReal (V m c main_v22 (ix2 o ch)) (argP m c (ix4 o ch 0 0)) := by
  unfold V
  after_reads_at

theorem v23_at (ch : Fin 96) (k : Fin 9) :
    @Eq EReal (V m c main_v23 (ix2 ch k)) (argD m c (ix4 ch 0 ⟨k.val / 3, by omega⟩ ⟨k.val % 3, by omega⟩)) := by
  unfold V
  after_reads_at

/-- The remainder of a column's number on division by 224, as the host computes it. -/
abbrev colWord (p : ℕ) : BitVec 32 :=
  Scalar.select
    (IntOp.andi
      (IntOp.cmpi .ne
        (IntOp.cmpi .slt
          (IntOp.remsi ArithUnit.host (BitVec.ofNat 32 p) (Scalar.select (IntOp.cmpi .eq 224#32 0#32) (1#32) 224#32)) 0#32)
        (IntOp.cmpi .slt (Scalar.select (IntOp.cmpi .eq 224#32 0#32) (1#32) 224#32) 0#32))
      (IntOp.cmpi .ne
        (IntOp.remsi ArithUnit.host (BitVec.ofNat 32 p) (Scalar.select (IntOp.cmpi .eq 224#32 0#32) (1#32) 224#32)) 0#32))
    (IntOp.addi
      (IntOp.remsi ArithUnit.host (BitVec.ofNat 32 p) (Scalar.select (IntOp.cmpi .eq 224#32 0#32) (1#32) 224#32))
      (Scalar.select (IntOp.cmpi .eq 224#32 0#32) (1#32) 224#32))
    (IntOp.remsi ArithUnit.host (BitVec.ofNat 32 p) (Scalar.select (IntOp.cmpi .eq 224#32 0#32) (1#32) 224#32))

theorem colWord_pos : ∀ p : Fin 7616, IntOp.cmpi .sgt (colWord p) 0#32 = BitVec.ofBool (decide (0 < p.val % 224)) := by
  decide +kernel

theorem colWord_lt : ∀ p : Fin 7616, IntOp.cmpi .slt (colWord p) 223#32 = BitVec.ofBool (decide (p.val % 224 < 223)) := by
  decide +kernel

theorem posWord_lt : ∀ p : Fin 7616, IntOp.cmpi .slt (BitVec.ofNat 32 p) 224#32 = BitVec.ofBool (decide (p.val < 224)) := by
  decide +kernel

theorem posWord_ge : ∀ p : Fin 7616, IntOp.cmpi .sge (BitVec.ofNat 32 p) 7392#32 = BitVec.ofBool (decide (7392 ≤ p.val)) := by
  decide +kernel

theorem bit_bf16 (q : Prop) [Decidable q] :
    @Eq EReal (FloatOps.uitofp (F := Ideal) .bf16 (BitVec.ofBool (decide q))) (if q then 1 else 0) := by
  by_cases h : q <;> simp [h, FloatOps.uitofp]

theorem select_bit {α : Type} (q : Prop) [Decidable q] (x y : α) :
    Scalar.select (BitVec.ofBool (decide q)) x y = if q then x else y := by
  by_cases h : q <;> simp [h, Scalar.select]

theorem v31_at (p : Fin 7616) : @Eq EReal (V m c main_v31 (ix2 0 p)) (if 0 < p.val % 224 then 1 else 0) := by
  unfold V
  after_reads_at
  exact (congrArg (FloatOps.uitofp (F := Ideal) .bf16) (colWord_pos p)).trans (bit_bf16 _)

theorem v32_at (p : Fin 7616) : @Eq EReal (V m c main_v32 (ix2 0 p)) (if p.val % 224 < 223 then 1 else 0) := by
  unfold V
  after_reads_at
  exact (congrArg (FloatOps.uitofp (F := Ideal) .bf16) (colWord_lt p)).trans (bit_bf16 _)

theorem v34_at (p : Fin 7616) :
    @Eq EReal (V m c main_v34 (ix2 0 p)) (if 0 < p.val % 224 then (big : EReal) else ((-big : ℝ) : EReal)) := by
  unfold V
  after_reads_at
  rw [ofBits_big, ofBits_neg_big]
  exact (congrArg (fun b => Scalar.select b (big : EReal) ((-big : ℝ) : EReal)) (colWord_pos p)).trans (select_bit _ _ _)

theorem v36_at (p : Fin 7616) :
    @Eq EReal (V m c main_v36 (ix2 0 p)) (if p.val % 224 < 223 then (big : EReal) else ((-big : ℝ) : EReal)) := by
  unfold V
  after_reads_at
  rw [ofBits_big, ofBits_neg_big]
  exact (congrArg (fun b => Scalar.select b (big : EReal) ((-big : ℝ) : EReal)) (colWord_lt p)).trans (select_bit _ _ _)

theorem v42_at (p : Fin 7616) :
    @Eq EReal (V m c main_v42 (ix2 0 p)) (if p.val < 224 then ((-big : ℝ) : EReal) else (big : EReal)) := by
  unfold V
  after_reads_at
  rw [ofBits_big, ofBits_neg_big]
  exact (congrArg (fun b => Scalar.select b ((-big : ℝ) : EReal) (big : EReal)) (posWord_lt p)).trans (select_bit _ _ _)

theorem v46_at (p : Fin 7616) :
    @Eq EReal (V m c main_v46 (ix2 0 p)) (if 7392 ≤ p.val then ((-big : ℝ) : EReal) else (big : EReal)) := by
  unfold V
  after_reads_at
  rw [ofBits_big, ofBits_neg_big]
  exact (congrArg (fun b => Scalar.select b ((-big : ℝ) : EReal) (big : EReal)) (posWord_ge p)).trans (select_bit _ _ _)

end Cert.Tables

end
-- ==== Proof.Hand.Arr.lean ====
/- The kernel's output array at an index: every grid point writes one block of it, and a block's inputs are the arrays
   that the host operations made. -/
module

public import proofs.«01_k».proof.Proof.Hand.Out
public import proofs.«01_k».proof.Proof.Hand.Tables
public import Idealize.ShloMosaic.Lib.Pipeline.ValueKit

@[expose] public section

set_option maxRecDepth 16384

noncomputable section

namespace Cert.Arr

open Cert.KernelIdeal Cert.KernelIdeal.Gen Idealize.ShloMosaic Idealize.ShloMosaic.TcCoe Idealize.SL.Sem Cert.Consts Cert.Weights Cert.Spec Cert.Block Cert.Tables

variable (m : (ℓ : Loc nD τ sig) → Buf (Elt Ideal) ℓ) (c : Dev nD)

theorem idx11 : ∀ t, win0_11.index t = ![(grid0.coords t 0).val, 0, (grid0.coords t 1).val] := by decide +kernel
theorem idx12 : ∀ t, win0_12.index t = ![(grid0.coords t 0).val, (grid0.coords t 1).val, 0, 0] := by decide +kernel
theorem idx13 : ∀ t, win0_13.index t = ![(grid0.coords t 0).val, (grid0.coords t 1).val, 0, 0] := by decide +kernel
theorem idx14 : ∀ t, win0_14.index t = ![(grid0.coords t 0).val, 0, (grid0.coords t 1).val] := by decide +kernel
theorem idx0 : ∀ t, win0_0.index t = ![0, 0] := by decide +kernel
theorem idx1 : ∀ t, win0_1.index t = ![0, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel
theorem idx6 : ∀ t, win0_6.index t = ![0, 0] := by decide +kernel
theorem idx7 : ∀ t, win0_7.index t = ![0, 0] := by decide +kernel
theorem idx8 : ∀ t, win0_8.index t = ![0, 0] := by decide +kernel
theorem idx9 : ∀ t, win0_9.index t = ![0, 0] := by decide +kernel
theorem idx10 : ∀ t, win0_10.index t = ![0, 0] := by decide +kernel

theorem in0 (t : Fin cfg0.N) (j : Fin 8) : @Eq EReal (iblk m c 0 t (ix2 0 j)) (V m c main_v19 (ix2 0 j)) := by
  blk_ext [iblk, idx0 t]

theorem in1 (t : Fin cfg0.N) (j : Fin 8) : @Eq EReal (iblk m c 1 t (ix2 j 0)) (V m c main_v20 (ix2 j 0)) := by
  blk_ext [iblk, idx1 t]

theorem in2 (t : Fin cfg0.N) (o ch : Fin 96) : @Eq EReal (iblk m c 2 t (ix2 o ch)) (V m c main_v21 (ix2 o ch)) := by
  blk_ext [iblk, idx2 t]

theorem in3 (t : Fin cfg0.N) (o ch : Fin 96) : @Eq EReal (iblk m c 3 t (ix2 o ch)) (V m c main_v22 (ix2 o ch)) := by
  blk_ext [iblk, idx3 t]

theorem in4 (t : Fin cfg0.N) (ch : Fin 96) (k : Fin 9) : @Eq EReal (iblk m c 4 t (ix2 ch k)) (V m c main_v23 (ix2 ch k)) := by
  blk_ext [iblk, idx4 t]

theorem in5 (t : Fin cfg0.N) (q : Fin 7616) : @Eq EReal (iblk m c 5 t (ix2 0 q)) (V m c main_v31 (ix2 0 q)) := by
  blk_ext [iblk, idx5 t]

theorem in6 (t : Fin cfg0.N) (q : Fin 7616) : @Eq EReal (iblk m c 6 t (ix2 0 q)) (V m c main_v32 (ix2 0 q)) := by
  blk_ext [iblk, idx6 t]

theorem in7 (t : Fin cfg0.N) (q : Fin 7616) : @Eq EReal (iblk m c 7 t (ix2 0 q)) (V m c main_v34 (ix2 0 q)) := by
  blk_ext [iblk, idx7 t]

theorem in8 (t : Fin cfg0.N) (q : Fin 7616) : @Eq EReal (iblk m c 8 t (ix2 0 q)) (V m c main_v36 (ix2 0 q)) := by
  blk_ext [iblk, idx8 t]

theorem in9 (t : Fin cfg0.N) (q : Fin 7616) : @Eq EReal (iblk m c 9 t (ix2 0 q)) (V m c main_v42 (ix2 0 q)) := by
  blk_ext [iblk, idx9 t]

theorem in10 (t : Fin cfg0.N) (q : Fin 7616) : @Eq EReal (iblk m c 10 t (ix2 0 q)) (V m c main_v46 (ix2 0 q)) := by
  blk_ext [iblk, idx10 t]

/-- Position `p` of block `ib` in the whole image. -/
def place (ib : Fin 7) (p : Fin 7168) : Fin 50176 := ⟨ib.val * 7168 + p.val, by omega⟩

section Point

variable (t : Fin cfg0.N) (b : Fin 2) (hb : (grid0.coords t 0).val = b.val) (ib : Fin 7) (hi : (grid0.coords t 1).val = ib.val)

include hb hi

theorem in11 (ch : Fin 96) (p : Fin 7168) : @Eq EReal (iblk m c 11 t (ix3 0 ch p)) (V m c main_v0 (ix3 b ch (place ib p))) := by
  unfold place
  blk_ext [iblk, idx11 t]

theorem in12 (ch : Fin 96) (w : Fin 224) : @Eq EReal (iblk m c 12 t (ix4 0 0 ch w)) (V m c main_v8 (ix4 b ib ch w)) := by
  blk_ext [iblk, idx12 t]

theorem in13 (ch : Fin 96) (w : Fin 224) : @Eq EReal (iblk m c 13 t (ix4 0 0 ch w)) (V m c main_v16 (ix4 b ib ch w)) := by
  blk_ext [iblk, idx13 t]

end Point

/-- Image `b` of the activations. -/
abbrev image (b : Fin 2) : Fin 96 → Fin 224 → Fin 224 → EReal := fun ch r q => argX m c (ix4 b ch r q)

/-- The logits, the taps of the depthwise kernel and the two channel matrices, each by its own indices. -/
abbrev logits : Fin 6 → EReal := fun i => argA m c (ix1 i)
abbrev taps : Fin 96 → Fin 9 → EReal := fun ch k => argD m c (ix4 ch 0 ⟨k.val / 3, by omega⟩ ⟨k.val % 3, by omega⟩)
abbrev mixes : Fin 96 → Fin 96 → EReal := fun o ch => argP m c (ix4 o ch 0 0)
abbrev ones : Fin 96 → Fin 96 → EReal := fun o ch => argW m c (ix4 o ch 0 0)

/-- What one grid point computes. -/
theorem point_at (hX : ∀ b ch r q, ((-big : ℝ) : EReal) ≤ image m c b ch r q ∧ image m c b ch r q ≤ (big : EReal))
    (hD : ∀ ch k, ∃ r : ℝ, taps m c ch k = r) (hP : ∀ o ch, ∃ r : ℝ, mixes m c o ch = r)
    (t : Fin cfg0.N) (b : Fin 2) (hb : (grid0.coords t 0).val = b.val) (ib : Fin 7) (hi : (grid0.coords t 1).val = ib.val) (o : Fin 96) (p : Fin 7168) :
    @Eq EReal (out0_14 (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix3 0 o p))
      (outAt (image m c b) (logits m c) (taps m c) (mixes m c) (ones m c) o (ib.val * 32 + p.val / 224) (p.val % 224)) :=
  Out.block_at (grid0.coords t) ib hi _ _ _ _ _ _ _ _ _ _ _ _ _ _ (logits m c) (logit m c) (fun _ => rfl) (image m c b) (hX b) (taps m c) (mixes m c)
    (ones m c) hD hP
    (fun j => (in0 m c t j).trans (v19_at m c j)) (fun j => (in1 m c t j).trans (v20_at m c j))
    (fun o ch => (in2 m c t o ch).trans (v21_at m c o ch)) (fun o ch => (in3 m c t o ch).trans (v22_at m c o ch))
    (fun ch k => (in4 m c t ch k).trans (v23_at m c ch k))
    (fun q => (in5 m c t q).trans (v31_at m c q)) (fun q => (in6 m c t q).trans (v32_at m c q))
    (fun q => (in7 m c t q).trans (v34_at m c q)) (fun q => (in8 m c t q).trans (v36_at m c q))
    (fun q => (in9 m c t q).trans (v42_at m c q)) (fun q => (in10 m c t q).trans (v46_at m c q))
    (fun ch p => (in11 m c t b hb ib hi ch p).trans ((v0_at m c b ch _).trans (by
      refine congrArg₂ (fun r q => argX m c (ix4 b ch r q)) (Fin.ext ?_) (Fin.ext ?_)
      · show (ib.val * 7168 + p.val) / 224 = ib.val * 32 + p.val / 224
        omega
      · show (ib.val * 7168 + p.val) % 224 = p.val % 224
        omega)))
    (fun ch w => (in12 m c t b hb ib hi ch w).trans (v8_at m c b ib ch w))
    (fun ch w => (in13 m c t b hb ib hi ch w).trans (v16_at m c b ib ch w)) o p

/-- The kernel's result at an index. -/
def resultAt (j : S2x96x50176.Idx) : EReal :=
  outAt (image m c (j 0)) (logits m c) (taps m c) (mixes m c) (ones m c) (j 1) ((j 2).val / 224) ((j 2).val % 224)

theorem array_eq (hX : ∀ b ch r q, ((-big : ℝ) : EReal) ≤ image m c b ch r q ∧ image m c b ch r q ≤ (big : EReal))
    (hD : ∀ ch k, ∃ r : ℝ, taps m c ch k = r) (hP : ∀ o ch, ∃ r : ℝ, mixes m c o ch = r) :
    (dats m 0 c).arrAt 14 cfg0.N = resultAt m c := by
  refine (dats m 0 c).arrAt_eq_of_covers 14 _ (by decide +kernel) fun t hf y => ?_
  blk_simp
  rw [after0_14]
  obtain ⟨z, o, p, rfl⟩ : ∃ (z : Fin 1) (o : Fin 96) (p : Fin 7168), y = ix3 z o p := ⟨y 0, y 1, y 2, by funext a; fin_cases a <;> rfl⟩
  obtain rfl : z = 0 := Subsingleton.elim _ _
  refine (point_at m c hX hD hP t (grid0.coords t 0) rfl (grid0.coords t 1) rfl o p).trans ?_
  have e0 : (((cfg0.win 14).blk t).view.emb (ix3 0 o p)) 0 = (grid0.coords t 0 : Fin 2) := by
    refine Fin.ext ?_
    blk_simp [idx14 t]
    exact Nat.add_zero _
  have e1 : (((cfg0.win 14).blk t).view.emb (ix3 0 o p)) 1 = (o : Fin 96) := by
    refine Fin.ext ?_
    blk_simp [idx14 t]
  have e2 : ((((cfg0.win 14).blk t).view.emb (ix3 0 o p)) 2).val = (grid0.coords t 1).val * 7168 + p.val := by
    blk_simp [idx14 t]
  unfold resultAt
  rw [e0, e1, e2]
  have h1 : ((grid0.coords t 1).val * 7168 + p.val) / 224 = (grid0.coords t 1).val * 32 + p.val / 224 := by omega
  have h2 : ((grid0.coords t 1).val * 7168 + p.val) % 224 = p.val % 224 := by omega
  rw [h1, h2]

end Cert.Arr

end
-- ==== Proof.Hand.RefWeights.lean ====
/- The weights that the reference gives the six branches: a softmax, its three greatest entries (the first of equal ones),
   those above the threshold, divided by their sum. -/
module

public import proofs.«01_k».proof.Proof.Hand.Weights
public import proofs.«01_k».proof.Proof.Gen.ReferenceIdeal.Read
public import Idealize.ShloMosaic.Lib.Pointwise
public import Idealize.ShloMosaic.Lib.Routing.OpsSet
public import Idealize.ShloMosaic.Lib.Routing.OpsPair

@[expose] public section

set_option maxRecDepth 16384

noncomputable section

namespace Cert.RefWeights

open Cert.ReferenceIdeal Cert.ReferenceIdeal.Gen Cert.ReferenceIdeal.Read Idealize.ShloMosaic Idealize.ShloMosaic.TcCoe Idealize.SL.Sem Cert.Consts Cert.Weights

variable (x1 : S6.Idx → EReal)

/-- The logits by number. -/
abbrev lg : Fin 6 → EReal := fun i => x1 (ix1 i)

theorem v0_at : @Eq EReal (val_main_v0 (F := Ideal) x1 ix0) (top (lg x1)) := by
  unfold val_main_v0 val_main_cst
  pointwise
  rw [ofBits_bot]
  rfl

theorem v1_at : @Eq EReal (val_main_v1 (F := Ideal) x1 ix0) (top (lg x1)) := by
  have e := v0_at x1
  unfold val_main_v1 val_main_cst_0
  generalize val_main_v0 (F := Ideal) x1 = y at e ⊢
  pointwise
  rw [ofBits_bot, e]
  exact max_eq_right bot_le

theorem v5_at (i : Fin 6) : @Eq EReal (val_main_v5 (F := Ideal) x1 (ix1 i)) (ex (lg x1) i) := by
  have e := v1_at x1
  unfold val_main_v5 val_main_v4 val_main_v3 val_main_v2
  generalize val_main_v1 (F := Ideal) x1 = y at e ⊢
  pointwise
  rw [e]
  rfl

theorem v6_at : @Eq EReal (val_main_v6 (F := Ideal) x1 ix0) (tot (lg x1)) := by
  have e := v5_at x1
  unfold val_main_v6 val_main_cst_1
  generalize val_main_v5 (F := Ideal) x1 = y at e ⊢
  pointwise
  simp only [e]
  rfl

theorem v9_at (i : Fin 6) : @Eq EReal (val_main_v9 (F := Ideal) x1 (ix1 i)) (sm (lg x1) i) := by
  have e := v5_at x1
  have e' := v6_at x1
  unfold val_main_v9 val_main_v8 val_main_v7
  generalize val_main_v5 (F := Ideal) x1 = y at e ⊢
  generalize val_main_v6 (F := Ideal) x1 = z at e' ⊢
  pointwise
  rw [e, e']
  rfl

/-- The position that the `k`-th greatest entry has among the six. -/
def place (w : Fin 6 → EReal) (k : Fin 3) : Fin 6 := sortedFrom (fun k k' => decide (w k' < w k)) ⟨k.val, by omega⟩

theorem indices_at (k : Fin 3) : val_main_indices (F := Ideal) x1 (ix1 k) = BitVec.ofNat 32 (place (sm (lg x1)) k).val := by
  have e := v9_at x1
  unfold val_main_indices
  generalize val_main_v9 (F := Ideal) x1 = y at e ⊢
  have hs : (fun k k' : Fin 6 => (FloatOps.cmpfTotal (F := Ideal) (φ := .f32) .gt (y (ix1 k)) (y (ix1 k')) == 1#1)) = fun k k' => decide (sm (lg x1) k' < sm (lg x1) k) := by
    funext k k'
    rw [e, e]
    show (BitVec.ofBool (decide (sm (lg x1) k' < sm (lg x1) k)) == 1#1) = _
    by_cases h : sm (lg x1) k' < sm (lg x1) k <;> simp [h]
  have hal : ∀ (j : S6.Idx) (k : Fin 6), Shape.Idx.along j (0 : Fin 1) k = ix1 k := fun j k => by
    funext a
    fin_cases a
    rfl
  unfold place
  rw [← hs]
  show iotaInDim S6 32 0 (Shape.Idx.along _ (0 : Fin 1) (sortedFrom (fun q q' : Fin 6 => FloatOps.cmpfTotal (F := Ideal) (φ := .f32) .gt
    (y (Shape.Idx.along _ (0 : Fin 1) q)) (y (Shape.Idx.along _ (0 : Fin 1) q')) == 1#1) _)) = _
  simp only [hal]
  refine congrArg (fun p : Fin 6 => BitVec.ofNat 32 p.val) (congrArg (sortedFrom _) (Fin.ext ?_))
  exact Nat.zero_add _

theorem v15_at (k : Fin 3) : val_main_v15 (F := Ideal) x1 (ix1 k) = BitVec.ofNat 32 (place (sm (lg x1)) k).val := by
  have e := indices_at x1 k
  unfold val_main_v15 val_main_v14 val_main_v13 val_main_v12 val_main_v11 val_main_c val_main_c_3
  generalize val_main_indices (F := Ideal) x1 = y at e ⊢
  pointwise
  rw [e]
  exact (by decide : ∀ n : Fin 6, Scalar.select (IntOp.cmpi .slt (BitVec.ofNat 32 n.val) 0#32) (IntOp.addi (BitVec.ofNat 32 n.val) 6#32) (BitVec.ofNat 32 n.val)
    = BitVec.ofNat 32 n.val) _

theorem v16_at (k : Fin 3) : val_main_v16 (F := Ideal) x1 (ix2 k 0) = BitVec.ofNat 32 (place (sm (lg x1)) k).val := by
  have e := v15_at x1 k
  unfold val_main_v16
  generalize val_main_v15 (F := Ideal) x1 = y at e ⊢
  pointwise
  exact e

/-- Update `k` of a scatter of three scalars into six lands at the entry that its index word names. -/
theorem lands (idx : IVec S3x1 32) (k : Fin 3) (i : Fin 6) :
    ScatterDims.resultIdx? scatter_S6_S3x1_S3_n_0_0_1 (ix1 k) idx = some (ix1 i) ↔ (idx (ix2 k 0)).toInt = (i.val : Int) := by
  refine (Routing.resultIdx?_eq_some _ _ _ _).trans ?_
  have hs : ScatterDims.start scatter_S6_S3x1_S3_n_0_0_1 (ix1 k) idx 0 = (idx (ix2 k 0)).toInt := by
    unfold ScatterDims.start
    rw [dif_pos (by decide)]
    refine congrArg (fun j => (idx j).toInt) (funext fun a => Fin.ext ?_)
    match a with
    | ⟨0, _⟩ => rfl
    | ⟨1, _⟩ => rfl
  have hw : ScatterDims.window scatter_S6_S3x1_S3_n_0_0_1 (ix1 k) 0 = 0 := by
    unfold ScatterDims.window
    rw [dif_neg (by decide)]
  have h0 : ScatterDims.start scatter_S6_S3x1_S3_n_0_0_1 (ix1 k) idx 0 + (ScatterDims.window scatter_S6_S3x1_S3_n_0_0_1 (ix1 k) 0 : Int)
      = (idx (ix2 k 0)).toInt := by
    rw [hs, hw]
    exact Int.add_zero _
  constructor
  · intro h
    exact h0.symm.trans (h 0)
  · intro h a
    match a with
    | ⟨0, _⟩ => exact h0.trans h

open Classical in
theorem v18_at (i : Fin 6) : @Eq EReal (val_main_v18 (F := Ideal) x1 (ix1 i)) (if rank (sm (lg x1)) i < 3 then 1 else 0) := by
  have e := v16_at x1
  have h17 : ∀ k : S3.Idx, @Eq EReal (val_main_v17 (F := Ideal) k) 1 := fun k => by
    rw [val_main_v17_apply, val_main_cst_4_apply]
    exact Ideal.ofBits_one_f32
  have h10 : @Eq EReal (val_main_v10 (F := Ideal) (ix1 i)) 0 := by
    rw [val_main_v10_apply, val_main_cst_2_apply]
    exact Ideal.ofBits_zero_f32
  unfold val_main_v18
  generalize val_main_v16 (F := Ideal) x1 = y at e ⊢
  have hl : ∀ k : Fin 3, ScatterDims.resultIdx? scatter_S6_S3x1_S3_n_0_0_1 (ix1 k) y = some (ix1 i) ↔ place (sm (lg x1)) k = i := fun k => by
    rw [lands, e]
    exact (by decide : ∀ n i : Fin 6, (BitVec.ofNat 32 n.val).toInt = (i.val : Int) ↔ n = i) _ _
  split_ifs with h
  · obtain ⟨k, hk⟩ := (mem_first_three (sm (lg x1)) (by omega) i).mpr h
    exact Routing.scatter_set_hit _ _ _ _ _ _ (fun k _ => h17 k) (ix1 k) ((hl k).mpr hk)
  · refine (Routing.scatter_set_miss _ _ _ _ _ fun k q => ?_).trans h10
    obtain ⟨k, rfl⟩ : ∃ k' : Fin 3, k = ix1 k' := ⟨k 0, by funext a; fin_cases a; rfl⟩
    exact h ((mem_first_three (sm (lg x1)) (by omega) i).mp ⟨k, (hl k).mp q⟩)

theorem v23_at (i : Fin 6) : @Eq EReal (val_main_v23 (F := Ideal) x1 (ix1 i)) (wm (lg x1) i) := by
  have e := v9_at x1
  have e' := v18_at x1
  unfold val_main_v23 val_main_v22 val_main_v21 val_main_v20 val_main_v19 val_main_cst_5
  generalize val_main_v9 (F := Ideal) x1 = y at e ⊢
  generalize val_main_v18 (F := Ideal) x1 = z at e' ⊢
  pointwise
  rw [e, e', ofBits_thr]
  unfold wm
  have hb : ∀ p : Prop, [Decidable p] → @Eq EReal (FloatOps.uitofp (F := Ideal) .f32 (BitVec.ofBool (decide p))) (if p then 1 else 0) := fun p _ => by
    by_cases h : p <;> simp [h, FloatOps.uitofp]
  rw [hb]
  by_cases h : rank (sm (lg x1)) i < 3 <;> by_cases h' : (thr : EReal) < sm (lg x1) i <;> simp [h, h']

theorem v27_at (i : Fin 6) : @Eq EReal (val_main_v27 (F := Ideal) x1 (ix1 i)) (wn (lg x1) i) := by
  have e := v23_at x1
  unfold val_main_v27 val_main_v26 val_main_v25 val_main_v24 val_main_cst_6 val_main_cst_7
  generalize val_main_v23 (F := Ideal) x1 = y at e ⊢
  pointwise
  simp only [e, ofBits_eps]
  rfl

end Cert.RefWeights

end
-- ==== Proof.Hand.RefMain.lean ====
/- What the reference computes at an index: the branches over the taps around the position, added with their weights. -/
module

public import proofs.«01_k».proof.Proof.Hand.Spec
public import proofs.«01_k».proof.Proof.Hand.RefWeights

@[expose] public section

set_option maxRecDepth 16384

noncomputable section

namespace Cert.RefMain

open Cert.ReferenceIdeal Cert.ReferenceIdeal.Gen Cert.ReferenceIdeal.Read Idealize.ShloMosaic Idealize.ShloMosaic.TcCoe Idealize.SL.Sem Cert.Consts Cert.Weights Cert.Spec Cert.RefWeights

variable (x0 : S2x96x224x224.Idx → EReal) (x1 : S6.Idx → EReal) (x2 : S96x1x3x3.Idx → EReal) (x3 x4 : S96x96x1x1.Idx → EReal)

/-- Image `b` of the activations; the depthwise taps; the two channel matrices. -/
abbrev image (b : Fin 2) : Fin 96 → Fin 224 → Fin 224 → EReal := fun ch r q => x0 (ix4 b ch r q)
abbrev taps : Fin 96 → Fin 9 → EReal := fun ch k => x2 (ix4 ch 0 ⟨k.val / 3, by omega⟩ ⟨k.val % 3, by omega⟩)
abbrev matrix (x3 : S96x96x1x1.Idx → EReal) : Fin 96 → Fin 96 → EReal := fun o ch => x3 (ix4 o ch 0 0)

/-! ## The padded image and its shifted views -/

theorem v28_at (b : Fin 2) (ch : Fin 96) (r q : Fin 226) : @Eq EReal (val_main_v28 (F := Ideal) x0 (ix4 b ch r q)) (tap 0 (image x0 b ch) r.val q.val) := by
  unfold val_main_v28 val_main_call0_v0 val_main_cst_8
  pointwise
  unfold tap
  by_cases h : (1 ≤ r.val ∧ r.val ≤ 224) ∧ (1 ≤ q.val ∧ q.val ≤ 224)
  · exact (dif_pos ⟨⟨h.1.1, by omega⟩, h.2.1, by omega⟩).trans (Eq.trans (by rfl) (dif_pos h).symm)
  · exact (dif_neg fun g => h ⟨⟨g.1.1, by omega⟩, g.2.1, by omega⟩).trans (Ideal.ofBits_zero_f32.trans (by rw [dif_neg h]))

theorem v50_at (b : Fin 2) (ch : Fin 96) (r q : Fin 226) : @Eq EReal (val_main_v50 (F := Ideal) x0 (ix4 b ch r q)) (tap ⊥ (image x0 b ch) r.val q.val) := by
  unfold val_main_v50 val_main_call1_v0 val_main_cst_11
  pointwise
  unfold tap
  by_cases h : (1 ≤ r.val ∧ r.val ≤ 224) ∧ (1 ≤ q.val ∧ q.val ≤ 224)
  · exact (dif_pos ⟨⟨h.1.1, by omega⟩, h.2.1, by omega⟩).trans (Eq.trans (by rfl) (dif_pos h).symm)
  · exact (dif_neg fun g => h ⟨⟨g.1.1, by omega⟩, g.2.1, by omega⟩).trans (ofBits_bot.trans (by rw [dif_neg h]))

variable (b : Fin 2) (ch : Fin 96) (r q : Fin 224)

theorem v29_at : @Eq EReal (val_main_v29 (F := Ideal) x0 (ix4 b ch r q)) (tap 0 (image x0 b ch) (r.val + (0 : Fin 9).val / 3) (q.val + (0 : Fin 9).val % 3)) := by
  have e := v28_at x0 b ch
  unfold val_main_v29
  generalize val_main_v28 (F := Ideal) x0 = y at e ⊢
  pointwise
  refine (e _ _).trans ?_
  congr 1
  all_goals (show _ = _ + _; dsimp only; omega)

theorem v30_at : @Eq EReal (val_main_v30 (F := Ideal) x0 (ix4 b ch r q)) (tap 0 (image x0 b ch) (r.val + (1 : Fin 9).val / 3) (q.val + (1 : Fin 9).val % 3)) := by
  have e := v28_at x0 b ch
  unfold val_main_v30
  generalize val_main_v28 (F := Ideal) x0 = y at e ⊢
  pointwise
  refine (e _ _).trans ?_
  congr 1
  all_goals (show _ = _ + _; dsimp only; omega)

theorem v31_at : @Eq EReal (val_main_v31 (F := Ideal) x0 (ix4 b ch r q)) (tap 0 (image x0 b ch) (r.val + (2 : Fin 9).val / 3) (q.val + (2 : Fin 9).val % 3)) := by
  have e := v28_at x0 b ch
  unfold val_main_v31
  generalize val_main_v28 (F := Ideal) x0 = y at e ⊢
  pointwise
  refine (e _ _).trans ?_
  congr 1
  all_goals (show _ = _ + _; dsimp only; omega)

theorem v32_at : @Eq EReal (val_main_v32 (F := Ideal) x0 (ix4 b ch r q)) (tap 0 (image x0 b ch) (r.val + (3 : Fin 9).val / 3) (q.val + (3 : Fin 9).val % 3)) := by
  have e := v28_at x0 b ch
  unfold val_main_v32
  generalize val_main_v28 (F := Ideal) x0 = y at e ⊢
  pointwise
  refine (e _ _).trans ?_
  congr 1
  all_goals (show _ = _ + _; dsimp only; omega)

theorem v33_at : @Eq EReal (val_main_v33 (F := Ideal) x0 (ix4 b ch r q)) (tap 0 (image x0 b ch) (r.val + (4 : Fin 9).val / 3) (q.val + (4 : Fin 9).val % 3)) := by
  have e := v28_at x0 b ch
  unfold val_main_v33
  generalize val_main_v28 (F := Ideal) x0 = y at e ⊢
  pointwise
  refine (e _ _).trans ?_
  congr 1
  all_goals (show _ = _ + _; dsimp only; omega)

theorem v34_at : @Eq EReal (val_main_v34 (F := Ideal) x0 (ix4 b ch r q)) (tap 0 (image x0 b ch) (r.val + (5 : Fin 9).val / 3) (q.val + (5 : Fin 9).val % 3)) := by
  have e := v28_at x0 b ch
  unfold val_main_v34
  generalize val_main_v28 (F := Ideal) x0 = y at e ⊢
  pointwise
  refine (e _ _).trans ?_
  congr 1
  all_goals (show _ = _ + _; dsimp only; omega)

theorem v35_at : @Eq EReal (val_main_v35 (F := Ideal) x0 (ix4 b ch r q)) (tap 0 (image x0 b ch) (r.val + (6 : Fin 9).val / 3) (q.val + (6 : Fin 9).val % 3)) := by
  have e := v28_at x0 b ch
  unfold val_main_v35
  generalize val_main_v28 (F := Ideal) x0 = y at e ⊢
  pointwise
  refine (e _ _).trans ?_
  congr 1
  all_goals (show _ = _ + _; dsimp only; omega)

theorem v36_at : @Eq EReal (val_main_v36 (F := Ideal) x0 (ix4 b ch r q)) (tap 0 (image x0 b ch) (r.val + (7 : Fin 9).val / 3) (q.val + (7 : Fin 9).val % 3)) := by
  have e := v28_at x0 b ch
  unfold val_main_v36
  generalize val_main_v28 (F := Ideal) x0 = y at e ⊢
  pointwise
  refine (e _ _).trans ?_
  congr 1
  all_goals (show _ = _ + _; dsimp only; omega)

theorem v37_at : @Eq EReal (val_main_v37 (F := Ideal) x0 (ix4 b ch r q)) (tap 0 (image x0 b ch) (r.val + (8 : Fin 9).val / 3) (q.val + (8 : Fin 9).val % 3)) := by
  have e := v28_at x0 b ch
  unfold val_main_v37
  generalize val_main_v28 (F := Ideal) x0 = y at e ⊢
  pointwise
  refine (e _ _).trans ?_
  congr 1
  all_goals (show _ = _ + _; dsimp only; omega)

theorem v51_at : @Eq EReal (val_main_v51 (F := Ideal) x0 (ix4 b ch r q)) (tap ⊥ (image x0 b ch) (r.val + (0 : Fin 9).val / 3) (q.val + (0 : Fin 9).val % 3)) := by
  have e := v50_at x0 b ch
  unfold val_main_v51
  generalize val_main_v50 (F := Ideal) x0 = y at e ⊢
  pointwise
  refine (e _ _).trans ?_
  congr 1
  all_goals (show _ = _ + _; dsimp only; omega)

theorem v52_at : @Eq EReal (val_main_v52 (F := Ideal) x0 (ix4 b ch r q)) (tap ⊥ (image x0 b ch) (r.val + (1 : Fin 9).val / 3) (q.val + (1 : Fin 9).val % 3)) := by
  have e := v50_at x0 b ch
  unfold val_main_v52
  generalize val_main_v50 (F := Ideal) x0 = y at e ⊢
  pointwise
  refine (e _ _).trans ?_
  congr 1
  all_goals (show _ = _ + _; dsimp only; omega)

theorem v53_at : @Eq EReal (val_main_v53 (F := Ideal) x0 (ix4 b ch r q)) (tap ⊥ (image x0 b ch) (r.val + (2 : Fin 9).val / 3) (q.val + (2 : Fin 9).val % 3)) := by
  have e := v50_at x0 b ch
  unfold val_main_v53
  generalize val_main_v50 (F := Ideal) x0 = y at e ⊢
  pointwise
  refine (e _ _).trans ?_
  congr 1
  all_goals (show _ = _ + _; dsimp only; omega)

theorem v54_at : @Eq EReal (val_main_v54 (F := Ideal) x0 (ix4 b ch r q)) (tap ⊥ (image x0 b ch) (r.val + (3 : Fin 9).val / 3) (q.val + (3 : Fin 9).val % 3)) := by
  have e := v50_at x0 b ch
  unfold val_main_v54
  generalize val_main_v50 (F := Ideal) x0 = y at e ⊢
  pointwise
  refine (e _ _).trans ?_
  congr 1
  all_goals (show _ = _ + _; dsimp only; omega)

theorem v55_at : @Eq EReal (val_main_v55 (F := Ideal) x0 (ix4 b ch r q)) (tap ⊥ (image x0 b ch) (r.val + (4 : Fin 9).val / 3) (q.val + (4 : Fin 9).val % 3)) := by
  have e := v50_at x0 b ch
  unfold val_main_v55
  generalize val_main_v50 (F := Ideal) x0 = y at e ⊢
  pointwise
  refine (e _ _).trans ?_
  congr 1
  all_goals (show _ = _ + _; dsimp only; omega)

theorem v56_at : @Eq EReal (val_main_v56 (F := Ideal) x0 (ix4 b ch r q)) (tap ⊥ (image x0 b ch) (r.val + (5 : Fin 9).val / 3) (q.val + (5 : Fin 9).val % 3)) := by
  have e := v50_at x0 b ch
  unfold val_main_v56
  generalize val_main_v50 (F := Ideal) x0 = y at e ⊢
  pointwise
  refine (e _ _).trans ?_
  congr 1
  all_goals (show _ = _ + _; dsimp only; omega)

theorem v57_at : @Eq EReal (val_main_v57 (F := Ideal) x0 (ix4 b ch r q)) (tap ⊥ (image x0 b ch) (r.val + (6 : Fin 9).val / 3) (q.val + (6 : Fin 9).val % 3)) := by
  have e := v50_at x0 b ch
  unfold val_main_v57
  generalize val_main_v50 (F := Ideal) x0 = y at e ⊢
  pointwise
  refine (e _ _).trans ?_
  congr 1
  all_goals (show _ = _ + _; dsimp only; omega)

theorem v58_at : @Eq EReal (val_main_v58 (F := Ideal) x0 (ix4 b ch r q)) (tap ⊥ (image x0 b ch) (r.val + (7 : Fin 9).val / 3) (q.val + (7 : Fin 9).val % 3)) := by
  have e := v50_at x0 b ch
  unfold val_main_v58
  generalize val_main_v50 (F := Ideal) x0 = y at e ⊢
  pointwise
  refine (e _ _).trans ?_
  congr 1
  all_goals (show _ = _ + _; dsimp only; omega)

theorem v59_at : @Eq EReal (val_main_v59 (F := Ideal) x0 (ix4 b ch r q)) (tap ⊥ (image x0 b ch) (r.val + (8 : Fin 9).val / 3) (q.val + (8 : Fin 9).val % 3)) := by
  have e := v50_at x0 b ch
  unfold val_main_v59
  generalize val_main_v50 (F := Ideal) x0 = y at e ⊢
  pointwise
  refine (e _ _).trans ?_
  congr 1
  all_goals (show _ = _ + _; dsimp only; omega)

/-! ## The branches -/

theorem v49_at : @Eq EReal (val_main_v49 (F := Ideal) x0 (ix4 b ch r q))
    (Ideal.div (∑ k : Fin 9, tap 0 (image x0 b ch) (r.val + k.val / 3) (q.val + k.val % 3)) ((9 : ℝ) : EReal)) := by
  have e0 := v29_at x0 b ch r q
  have e1 := v30_at x0 b ch r q
  have e2 := v31_at x0 b ch r q
  have e3 := v32_at x0 b ch r q
  have e4 := v33_at x0 b ch r q
  have e5 := v34_at x0 b ch r q
  have e6 := v35_at x0 b ch r q
  have e7 := v36_at x0 b ch r q
  have e8 := v37_at x0 b ch r q
  unfold val_main_v49 val_main_v48 val_main_cst_10 val_main_v47 val_main_v46 val_main_v45 val_main_v44 val_main_v43 val_main_v42 val_main_v41 val_main_v40 val_main_v39 val_main_v38 val_main_cst_9
  generalize val_main_v29 (F := Ideal) x0 = y0 at e0 ⊢
  generalize val_main_v30 (F := Ideal) x0 = y1 at e1 ⊢
  generalize val_main_v31 (F := Ideal) x0 = y2 at e2 ⊢
  generalize val_main_v32 (F := Ideal) x0 = y3 at e3 ⊢
  generalize val_main_v33 (F := Ideal) x0 = y4 at e4 ⊢
  generalize val_main_v34 (F := Ideal) x0 = y5 at e5 ⊢
  generalize val_main_v35 (F := Ideal) x0 = y6 at e6 ⊢
  generalize val_main_v36 (F := Ideal) x0 = y7 at e7 ⊢
  generalize val_main_v37 (F := Ideal) x0 = y8 at e8 ⊢
  pointwise
  rw [ofBits_nine, e0, e1, e2, e3, e4, e5, e6, e7, e8]
  refine congrArg (fun s => Ideal.div s ((9 : ℝ) : EReal)) ?_
  rw [Fin.sum_univ_castSucc, Fin.sum_univ_eight]
  rfl

theorem v67_at : @Eq EReal (val_main_v67 (F := Ideal) x0 (ix4 b ch r q)) (max9 fun k => tap ⊥ (image x0 b ch) (r.val + k.val / 3) (q.val + k.val % 3)) := by
  have e0 := v51_at x0 b ch r q
  have e1 := v52_at x0 b ch r q
  have e2 := v53_at x0 b ch r q
  have e3 := v54_at x0 b ch r q
  have e4 := v55_at x0 b ch r q
  have e5 := v56_at x0 b ch r q
  have e6 := v57_at x0 b ch r q
  have e7 := v58_at x0 b ch r q
  have e8 := v59_at x0 b ch r q
  unfold val_main_v67 val_main_v66 val_main_v65 val_main_v64 val_main_v63 val_main_v62 val_main_v61 val_main_v60
  generalize val_main_v51 (F := Ideal) x0 = y0 at e0 ⊢
  generalize val_main_v52 (F := Ideal) x0 = y1 at e1 ⊢
  generalize val_main_v53 (F := Ideal) x0 = y2 at e2 ⊢
  generalize val_main_v54 (F := Ideal) x0 = y3 at e3 ⊢
  generalize val_main_v55 (F := Ideal) x0 = y4 at e4 ⊢
  generalize val_main_v56 (F := Ideal) x0 = y5 at e5 ⊢
  generalize val_main_v57 (F := Ideal) x0 = y6 at e6 ⊢
  generalize val_main_v58 (F := Ideal) x0 = y7 at e7 ⊢
  generalize val_main_v59 (F := Ideal) x0 = y8 at e8 ⊢
  pointwise
  rw [e0, e1, e2, e3, e4, e5, e6, e7, e8]
  unfold max9
  simp only [max_assoc]

theorem v72_at : @Eq EReal (val_main_v72 (F := Ideal) x2 (ix4 b ch r q)) (taps x2 ch 0) := by
  unfold val_main_v72 val_main_v71 val_main_v70 val_main_v69 val_main_v68
  pointwise
  rfl

theorem v79_at : @Eq EReal (val_main_v79 (F := Ideal) x2 (ix4 b ch r q)) (taps x2 ch 1) := by
  unfold val_main_v79 val_main_v78 val_main_v77 val_main_v76 val_main_v68
  pointwise
  rfl

theorem v85_at : @Eq EReal (val_main_v85 (F := Ideal) x2 (ix4 b ch r q)) (taps x2 ch 2) := by
  unfold val_main_v85 val_main_v84 val_main_v83 val_main_v82 val_main_v68
  pointwise
  rfl

theorem v91_at : @Eq EReal (val_main_v91 (F := Ideal) x2 (ix4 b ch r q)) (taps x2 ch 3) := by
  unfold val_main_v91 val_main_v90 val_main_v89 val_main_v88 val_main_v68
  pointwise
  rfl

theorem v97_at : @Eq EReal (val_main_v97 (F := Ideal) x2 (ix4 b ch r q)) (taps x2 ch 4) := by
  unfold val_main_v97 val_main_v96 val_main_v95 val_main_v94 val_main_v68
  pointwise
  rfl

theorem v103_at : @Eq EReal (val_main_v103 (F := Ideal) x2 (ix4 b ch r q)) (taps x2 ch 5) := by
  unfold val_main_v103 val_main_v102 val_main_v101 val_main_v100 val_main_v68
  pointwise
  rfl

theorem v109_at : @Eq EReal (val_main_v109 (F := Ideal) x2 (ix4 b ch r q)) (taps x2 ch 6) := by
  unfold val_main_v109 val_main_v108 val_main_v107 val_main_v106 val_main_v68
  pointwise
  rfl

theorem v115_at : @Eq EReal (val_main_v115 (F := Ideal) x2 (ix4 b ch r q)) (taps x2 ch 7) := by
  unfold val_main_v115 val_main_v114 val_main_v113 val_main_v112 val_main_v68
  pointwise
  rfl

theorem v121_at : @Eq EReal (val_main_v121 (F := Ideal) x2 (ix4 b ch r q)) (taps x2 ch 8) := by
  unfold val_main_v121 val_main_v120 val_main_v119 val_main_v118 val_main_v68
  pointwise
  rfl

theorem v123_at : @Eq EReal (val_main_v123 (F := Ideal) x0 x2 (ix4 b ch r q))
    (∑ k : Fin 9, taps x2 ch k * tap 0 (image x0 b ch) (r.val + k.val / 3) (q.val + k.val % 3)) := by
  have e0 := v29_at x0 b ch r q
  have d0 := v72_at x2 b ch r q
  have e1 := v30_at x0 b ch r q
  have d1 := v79_at x2 b ch r q
  have e2 := v31_at x0 b ch r q
  have d2 := v85_at x2 b ch r q
  have e3 := v32_at x0 b ch r q
  have d3 := v91_at x2 b ch r q
  have e4 := v33_at x0 b ch r q
  have d4 := v97_at x2 b ch r q
  have e5 := v34_at x0 b ch r q
  have d5 := v103_at x2 b ch r q
  have e6 := v35_at x0 b ch r q
  have d6 := v109_at x2 b ch r q
  have e7 := v36_at x0 b ch r q
  have d7 := v115_at x2 b ch r q
  have e8 := v37_at x0 b ch r q
  have d8 := v121_at x2 b ch r q
  unfold val_main_v123 val_main_v122 val_main_v117 val_main_v116 val_main_v111 val_main_v110 val_main_v105 val_main_v104 val_main_v99 val_main_v98 val_main_v93 val_main_v92 val_main_v87 val_main_v86 val_main_v81 val_main_v80 val_main_v75 val_main_v74 val_main_v73 val_main_cst_12
  generalize val_main_v29 (F := Ideal) x0 = y0 at e0 ⊢
  generalize val_main_v72 (F := Ideal) x2 = z0 at d0 ⊢
  generalize val_main_v30 (F := Ideal) x0 = y1 at e1 ⊢
  generalize val_main_v79 (F := Ideal) x2 = z1 at d1 ⊢
  generalize val_main_v31 (F := Ideal) x0 = y2 at e2 ⊢
  generalize val_main_v85 (F := Ideal) x2 = z2 at d2 ⊢
  generalize val_main_v32 (F := Ideal) x0 = y3 at e3 ⊢
  generalize val_main_v91 (F := Ideal) x2 = z3 at d3 ⊢
  generalize val_main_v33 (F := Ideal) x0 = y4 at e4 ⊢
  generalize val_main_v97 (F := Ideal) x2 = z4 at d4 ⊢
  generalize val_main_v34 (F := Ideal) x0 = y5 at e5 ⊢
  generalize val_main_v103 (F := Ideal) x2 = z5 at d5 ⊢
  generalize val_main_v35 (F := Ideal) x0 = y6 at e6 ⊢
  generalize val_main_v109 (F := Ideal) x2 = z6 at d6 ⊢
  generalize val_main_v36 (F := Ideal) x0 = y7 at e7 ⊢
  generalize val_main_v115 (F := Ideal) x2 = z7 at d7 ⊢
  generalize val_main_v37 (F := Ideal) x0 = y8 at e8 ⊢
  generalize val_main_v121 (F := Ideal) x2 = z8 at d8 ⊢
  pointwise
  rw [e0, e1, e2, e3, e4, e5, e6, e7, e8, d0, d1, d2, d3, d4, d5, d6, d7, d8, Fin.sum_univ_castSucc, Fin.sum_univ_eight]
  rfl

theorem v126_at (o : Fin 96) : @Eq EReal (val_main_v126 (F := Ideal) x0 x2 x3 (ix4 b o r q))
    (∑ ch, matrix x3 o ch * ∑ k : Fin 9, taps x2 ch k * tap 0 (image x0 b ch) (r.val + k.val / 3) (q.val + k.val % 3)) := by
  have e := fun ch => v123_at x0 x2 b ch r q
  unfold val_main_v126 val_main_v125 val_main_v124
  generalize val_main_v123 (F := Ideal) x0 x2 = y at e ⊢
  pointwise
  simp only [e]
  exact Finset.sum_congr rfl fun ch _ => mul_comm _ _

theorem v129_at (o : Fin 96) : @Eq EReal (val_main_v129 (F := Ideal) x0 x4 (ix4 b o r q)) (∑ ch, matrix x4 o ch * image x0 b ch r q) := by
  unfold val_main_v129 val_main_v128 val_main_v127
  pointwise
  exact Finset.sum_congr rfl fun ch _ => mul_comm _ _

/-! ## The weighted sum -/

theorem v134_at : @Eq EReal (val_main_v134 (F := Ideal) x1 (ix4 b ch r q)) (wn (lg x1) 0) := by
  have e := v27_at x1 0
  unfold val_main_v134 val_main_v133 val_main_v132
  generalize val_main_v27 (F := Ideal) x1 = y at e ⊢
  pointwise
  exact e

theorem v139_at : @Eq EReal (val_main_v139 (F := Ideal) x1 (ix4 b ch r q)) (wn (lg x1) 1) := by
  have e := v27_at x1 1
  unfold val_main_v139 val_main_v138 val_main_v137
  generalize val_main_v27 (F := Ideal) x1 = y at e ⊢
  pointwise
  exact e

theorem v144_at : @Eq EReal (val_main_v144 (F := Ideal) x1 (ix4 b ch r q)) (wn (lg x1) 2) := by
  have e := v27_at x1 2
  unfold val_main_v144 val_main_v143 val_main_v142
  generalize val_main_v27 (F := Ideal) x1 = y at e ⊢
  pointwise
  exact e

theorem v149_at : @Eq EReal (val_main_v149 (F := Ideal) x1 (ix4 b ch r q)) (wn (lg x1) 3) := by
  have e := v27_at x1 3
  unfold val_main_v149 val_main_v148 val_main_v147
  generalize val_main_v27 (F := Ideal) x1 = y at e ⊢
  pointwise
  exact e

theorem v154_at : @Eq EReal (val_main_v154 (F := Ideal) x1 (ix4 b ch r q)) (wn (lg x1) 4) := by
  have e := v27_at x1 4
  unfold val_main_v154 val_main_v153 val_main_v152
  generalize val_main_v27 (F := Ideal) x1 = y at e ⊢
  pointwise
  exact e

theorem v159_at : @Eq EReal (val_main_v159 (F := Ideal) x1 (ix4 b ch r q)) (wn (lg x1) 5) := by
  have e := v27_at x1 5
  unfold val_main_v159 val_main_v158 val_main_v157
  generalize val_main_v27 (F := Ideal) x1 = y at e ⊢
  pointwise
  exact e

theorem v161_at (o : Fin 96) : @Eq EReal (val_main_v161 (F := Ideal) x0 x1 x2 x3 x4 (ix4 b o r q))
    (outAt (image x0 b) (lg x1) (taps x2) (matrix x3) (matrix x4) o r.val q.val) := by
  have w0 := v134_at x1 b o r q
  have w1 := v139_at x1 b o r q
  have w2 := v144_at x1 b o r q
  have w3 := v149_at x1 b o r q
  have w4 := v154_at x1 b o r q
  have w5 := v159_at x1 b o r q
  have e2 := v49_at x0 b o r q
  have e3 := v67_at x0 b o r q
  have e4 := v126_at x0 x2 x3 b r q o
  have e5 := v129_at x0 x4 b r q o
  unfold val_main_v161 val_main_v160 val_main_v156 val_main_v155 val_main_v151 val_main_v150 val_main_v146 val_main_v145 val_main_v141 val_main_v140 val_main_v136 val_main_v135 val_main_v131 val_main_v130 val_main_cst_13 val_main_cst_14
  generalize val_main_v134 (F := Ideal) x1 = z0 at w0 ⊢
  generalize val_main_v139 (F := Ideal) x1 = z1 at w1 ⊢
  generalize val_main_v144 (F := Ideal) x1 = z2 at w2 ⊢
  generalize val_main_v149 (F := Ideal) x1 = z3 at w3 ⊢
  generalize val_main_v154 (F := Ideal) x1 = z4 at w4 ⊢
  generalize val_main_v159 (F := Ideal) x1 = z5 at w5 ⊢
  generalize val_main_v49 (F := Ideal) x0 = y2 at e2 ⊢
  generalize val_main_v67 (F := Ideal) x0 = y3 at e3 ⊢
  generalize val_main_v126 (F := Ideal) x0 x2 x3 = y4 at e4 ⊢
  generalize val_main_v129 (F := Ideal) x0 x4 = y5 at e5 ⊢
  pointwise
  rw [w0, w1, w2, w3, w4, w5, e2, e3, e4, e5]
  have h4 : ∀ ch, tap 0 (image x0 b ch) (r.val + (4 : Fin 9).val / 3) (q.val + (4 : Fin 9).val % 3) = x0 (ix4 b ch r q) := fun ch => tap_in 0 (image x0 b ch) r q
  unfold outAt branches
  simp only [h4]
  rw [mul_zero, zero_add]

theorem v162_at (o : Fin 96) (p : Fin 50176) : @Eq EReal (val_main_v162 (F := Ideal) x0 x1 x2 x3 x4 (ix3 b o p))
    (outAt (image x0 b) (lg x1) (taps x2) (matrix x3) (matrix x4) o (p.val / 224) (p.val % 224)) := by
  have e := v161_at x0 x1 x2 x3 x4 b ⟨p.val / 224, by omega⟩ ⟨p.val % 224, by omega⟩ o
  unfold val_main_v162
  generalize val_main_v161 (F := Ideal) x0 x1 x2 x3 x4 = y at e ⊢
  pointwise
  exact e

end Cert.RefMain

end
-- ==== Proof.Hand.Range.lean ====
/- What the precondition says of single entries: an activation is at most the clip bound in magnitude, and a depthwise
   tap and a pointwise weight are real numbers. -/
module

public import proofs.«01_k».proof.Pre_inputs_in_range
public import proofs.«01_k».proof.Proof.Gen.Pre_inputs_in_range
public import proofs.«01_k».proof.Proof.Hand.Consts
public import Idealize.ShloMosaic.Lib.WordCmp

@[expose] public section

noncomputable section

namespace Cert.Range

open Cert.Pre_inputs_in_range Idealize.ShloMosaic Cert.Consts

theorem bounds_of_max {x : EReal} {r : ℝ} (h : max x (-x) ≤ (r : EReal)) : ((-r : ℝ) : EReal) ≤ x ∧ x ≤ (r : EReal) := by
  refine ⟨?_, (le_max_left _ _).trans h⟩
  rw [EReal.coe_neg]
  exact EReal.neg_le_of_neg_le ((le_max_right _ _).trans h)

theorem real_of_max {x : EReal} (h : max x (-x) < ⊤) : ∃ r : ℝ, x = r := by
  induction x with
  | bot => simp at h
  | coe r => exact ⟨r, rfl⟩
  | top => simp at h

variable (x : S2x96x224x224.Idx → EReal) (a : S6.Idx → EReal) (d : S96x1x3x3.Idx → EReal) (p w : S96x96x1x1.Idx → EReal)

theorem x_at (h : (fn (F := Ideal) x a d p w).1 = fun _ => 1#1) (b : Fin 2) (ch : Fin 96) (r q : Fin 224) :
    ((-big : ℝ) : EReal) ≤ x (ix4 b ch r q) ∧ x (ix4 b ch r q) ≤ (big : EReal) := by
  have e := congrFun h (ix4 b ch r q)
  refine bounds_of_max ?_
  unfold fn at e
  pointwise at e
  rw [ofBits_big] at e
  exact of_decide_eq_true ((WordCmp.ofBool_eq_one_iff _).mp e)

theorem d_at (h : (fn (F := Ideal) x a d p w).2.1 = fun _ => 1#1) (ch : Fin 96) (k l : Fin 3) :
    ∃ r : ℝ, d (ix4 ch 0 k l) = r := by
  have e := congrFun h (ix4 ch 0 k l)
  refine real_of_max ?_
  unfold fn at e
  pointwise at e
  rw [ofBits_top] at e
  exact of_decide_eq_true ((WordCmp.ofBool_eq_one_iff _).mp e)

theorem p_at (h : (fn (F := Ideal) x a d p w).2.2 = fun _ => 1#1) (o ch : Fin 96) :
    ∃ r : ℝ, p (ix4 o ch 0 0) = r := by
  have e := congrFun h (ix4 o ch 0 0)
  refine real_of_max ?_
  unfold fn at e
  pointwise at e
  rw [ofBits_top] at e
  exact of_decide_eq_true ((WordCmp.ofBool_eq_one_iff _).mp e)

end Cert.Range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Pre_inputs_in_range
public import proofs.«01_k».proof.Proof.Hand.Arr
public import proofs.«01_k».proof.Proof.Hand.RefMain
public import proofs.«01_k».proof.Proof.Hand.Range
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs and keeps its arguments; it declares no semaphore, so every counter is zero at the end. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The reference's result array, from arguments equal to the kernel's, is the specified one. -/
theorem reference_array (m : (ℓ : Loc Cert.KernelIdeal.nD Cert.KernelIdeal.τ Cert.KernelIdeal.sig) → Buf (Elt Ideal) ℓ) (c : Dev Cert.KernelIdeal.nD) :
    (Cert.ReferenceIdeal.Read.val_main_v162 (F := Ideal) (Cert.Tables.argX m c) (Cert.Tables.argA m c) (Cert.Tables.argD m c)
      (Cert.Tables.argP m c) (Cert.Tables.argW m c) : Cert.KernelIdeal.S2x96x50176.Idx → EReal) = Cert.Arr.resultAt m c := by
  funext j
  obtain ⟨b, o, p, rfl⟩ : ∃ (b : Fin 2) (o : Fin 96) (p : Fin 50176), j = ix3 b o p := ⟨j 0, j 1, j 2, by funext a; fin_cases a <;> rfl⟩
  exact Cert.RefMain.v162_at _ _ _ _ _ b o p

theorem kernel_array (m : (ℓ : Loc Cert.KernelIdeal.nD Cert.KernelIdeal.τ Cert.KernelIdeal.sig) → Buf (Elt Ideal) ℓ)
    (h : Cert.Pre_KernelIdeal_inputs_in_range m) (c : Dev Cert.KernelIdeal.nD) :
    (Cert.KernelIdeal.Gen.dats m 0 c).arrAt 14 Cert.KernelIdeal.cfg0.N = Cert.Arr.resultAt m c :=
  Cert.Arr.array_eq m c (fun b ch r q => Cert.Range.x_at _ _ _ _ _ (h c).1 b ch r q)
    (fun ch k => Cert.Range.d_at _ _ _ _ _ (h c).2.1 ch _ _) (fun o ch => Cert.Range.p_at _ _ _ _ _ (h c).2.2 o ch)

/-- The two results are one array. -/
theorem same : Cert.algebraic_KernelIdeal_ReferenceIdeal_pre_inputs_in_range := by
  intro m g m' g' hpre hargs
  refine ⟨fun c => Cert.Arr.resultAt m c, ?_, ?_⟩
  · exact (θ_run Cert.KernelIdeal.defs _ _).mono (fun r h c => ⟨(h c).1.trans (kernel_array m hpre c), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v162_eq (F := Ideal) _).trans ?_
    refine Eq.trans ?_ (reference_array m c)
    obtain ⟨h0, h1, h2, h3, h4⟩ := hargs c
    exact congr (congr (congr (congr (congrArg (Cert.ReferenceIdeal.Read.val_main_v162 (F := Ideal)) h0) h1) h2) h3) h4

theorem claim : Cert.Claim :=
  ⟨Cert.Kernel.Gen.facts, Cert.KernelIdeal.Gen.facts, Cert.ReferenceIdeal.Gen.facts, Cert.Pre_inputs_in_range.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, same⟩

end Cert.Proof

end
